-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x8x128 : Shape := ⟨4, ![4, 8192, 8, 128]⟩
abbrev S4x8192x8 : Shape := ⟨3, ![4, 8192, 8]⟩
abbrev S4x16x8x128 : Shape := ⟨4, ![4, 16, 8, 128]⟩
abbrev S4x16x8 : Shape := ⟨3, ![4, 16, 8]⟩
abbrev S32x128 : Shape := ⟨2, ![32, 128]⟩
abbrev S32x128x7168 : Shape := ⟨3, ![32, 128, 7168]⟩
abbrev S7168 : Shape := ⟨1, ![7168]⟩
abbrev S7168x128 : Shape := ⟨2, ![7168, 128]⟩
abbrev S128 : Shape := ⟨1, ![128]⟩
abbrev S4x8x8192 : Shape := ⟨3, ![4, 8, 8192]⟩
abbrev S4x8x16 : Shape := ⟨3, ![4, 8, 16]⟩
abbrev S4096x7168 : Shape := ⟨2, ![4096, 7168]⟩
abbrev S1x7168 : Shape := ⟨2, ![1, 7168]⟩
abbrev S1x128 : Shape := ⟨2, ![1, 128]⟩
abbrev S4x512x8x128 : Shape := ⟨4, ![4, 512, 8, 128]⟩
abbrev S4x8x512 : Shape := ⟨3, ![4, 8, 512]⟩
abbrev S4x512x8x7168 : Shape := ⟨4, ![4, 512, 8, 7168]⟩
abbrev S1x512x8x128 : Shape := ⟨4, ![1, 512, 8, 128]⟩
abbrev S1x8x512 : Shape := ⟨3, ![1, 8, 512]⟩
abbrev S1x16x8x128 : Shape := ⟨4, ![1, 16, 8, 128]⟩
abbrev S1x8x128 : Shape := ⟨3, ![1, 8, 128]⟩
abbrev S1x8x16 : Shape := ⟨3, ![1, 8, 16]⟩
abbrev S1x32x8x128 : Shape := ⟨4, ![1, 32, 8, 128]⟩
abbrev S1x32x8x7168 : Shape := ⟨4, ![1, 32, 8, 7168]⟩
abbrev S256x4096 : Shape := ⟨2, ![256, 4096]⟩
abbrev S256x7168 : Shape := ⟨2, ![256, 7168]⟩
abbrev S256x128 : Shape := ⟨2, ![256, 128]⟩
abbrev S1x1x8x128 : Shape := ⟨4, ![1, 1, 8, 128]⟩
abbrev S8x128 : Shape := ⟨2, ![8, 128]⟩
abbrev S1x8x1 : Shape := ⟨3, ![1, 8, 1]⟩
abbrev S8x1 : Shape := ⟨2, ![8, 1]⟩
abbrev S16x128 : Shape := ⟨2, ![16, 128]⟩
abbrev S4096x512 : Shape := ⟨2, ![4096, 512]⟩
abbrev S256x512 : Shape := ⟨2, ![256, 512]⟩
abbrev S1x512 : Shape := ⟨2, ![1, 512]⟩
abbrev S256 : Shape := ⟨1, ![256]⟩
abbrev S256x1 : Shape := ⟨2, ![256, 1]⟩
abbrev S256x256 : Shape := ⟨2, ![256, 256]⟩
abbrev S32x8x512 : Shape := ⟨3, ![32, 8, 512]⟩
abbrev S1x32x8x512 : Shape := ⟨4, ![1, 32, 8, 512]⟩
abbrev S512x128 : Shape := ⟨2, ![512, 128]⟩
abbrev S512x256 : Shape := ⟨2, ![512, 256]⟩
abbrev S32x8x128 : Shape := ⟨3, ![32, 8, 128]⟩

abbrev nBuf : Space → Nat
  | .hbm => 22
  | .vmem => 30
  | .smem => 0
  | _ => 0

abbrev bufTy : (tb : Table) → Fin (tcTables nBuf tb) → BufTy
  | .hbm, ⟨0, _⟩ => ⟨S4x8192x8x128, .fp8e4m3⟩
  | .hbm, ⟨1, _⟩ => ⟨S4x8192x8, .f32⟩
  | .hbm, ⟨2, _⟩ => ⟨S4x16x8x128, .fp8e4m3⟩
  | .hbm, ⟨3, _⟩ => ⟨S4x16x8, .f32⟩
  | .hbm, ⟨4, _⟩ => ⟨S32x128, .f32⟩
  | .hbm, ⟨5, _⟩ => ⟨S32x128x7168, .fp8e4m3⟩
  | .hbm, ⟨6, _⟩ => ⟨S7168, .f32⟩
  | .hbm, ⟨7, _⟩ => ⟨S7168, .f32⟩
  | .hbm, ⟨8, _⟩ => ⟨S7168x128, .fp8e4m3⟩
  | .hbm, ⟨9, _⟩ => ⟨S128, .f32⟩
  | .hbm, ⟨10, _⟩ => ⟨S128, .f32⟩
  | .hbm, ⟨11, _⟩ => ⟨S4x8x8192, .f32⟩
  | .hbm, ⟨12, _⟩ => ⟨S4x8x16, .f32⟩
  | .hbm, ⟨13, _⟩ => ⟨S4096x7168, .fp8e4m3⟩
  | .hbm, ⟨14, _⟩ => ⟨S1x7168, .f32⟩
  | .hbm, ⟨15, _⟩ => ⟨S1x7168, .f32⟩
  | .hbm, ⟨16, _⟩ => ⟨S1x128, .f32⟩
  | .hbm, ⟨17, _⟩ => ⟨S1x128, .f32⟩
  | .hbm, ⟨18, _⟩ => ⟨S4x512x8x128, .fp8e4m3⟩
  | .hbm, ⟨19, _⟩ => ⟨S4x8x512, .f32⟩
  | .hbm, ⟨20, _⟩ => ⟨S4x512x8x7168, .fp8e4m3⟩
  | .hbm, ⟨21, _⟩ => ⟨S4x8x512, .f32⟩
  | .local _ .vmem, ⟨0, _⟩ => ⟨S1x512x8x128, .fp8e4m3⟩
  | .local _ .vmem, ⟨1, _⟩ => ⟨S1x512x8x128, .fp8e4m3⟩
  | .local _ .vmem, ⟨2, _⟩ => ⟨S1x8x512, .f32⟩
  | .local _ .vmem, ⟨3, _⟩ => ⟨S1x8x512, .f32⟩
  | .local _ .vmem, ⟨4, _⟩ => ⟨S1x16x8x128, .fp8e4m3⟩
  | .local _ .vmem, ⟨5, _⟩ => ⟨S1x16x8x128, .fp8e4m3⟩
  | .local _ .vmem, ⟨6, _⟩ => ⟨S1x8x128, .f32⟩
  | .local _ .vmem, ⟨7, _⟩ => ⟨S1x8x128, .f32⟩
  | .local _ .vmem, ⟨8, _⟩ => ⟨S1x16x8x128, .fp8e4m3⟩
  | .local _ .vmem, ⟨9, _⟩ => ⟨S1x16x8x128, .fp8e4m3⟩
  | .local _ .vmem, ⟨10, _⟩ => ⟨S1x8x16, .f32⟩
  | .local _ .vmem, ⟨11, _⟩ => ⟨S1x8x16, .f32⟩
  | .local _ .vmem, ⟨12, _⟩ => ⟨S32x128, .f32⟩
  | .local _ .vmem, ⟨13, _⟩ => ⟨S4096x7168, .fp8e4m3⟩
  | .local _ .vmem, ⟨14, _⟩ => ⟨S1x7168, .f32⟩
  | .local _ .vmem, ⟨15, _⟩ => ⟨S1x7168, .f32⟩
  | .local _ .vmem, ⟨16, _⟩ => ⟨S7168x128, .fp8e4m3⟩
  | .local _ .vmem, ⟨17, _⟩ => ⟨S1x128, .f32⟩
  | .local _ .vmem, ⟨18, _⟩ => ⟨S1x128, .f32⟩
  | .local _ .vmem, ⟨19, _⟩ => ⟨S1x32x8x128, .fp8e4m3⟩
  | .local _ .vmem, ⟨20, _⟩ => ⟨S1x32x8x128, .fp8e4m3⟩
  | .local _ .vmem, ⟨21, _⟩ => ⟨S1x8x128, .f32⟩
  | .local _ .vmem, ⟨22, _⟩ => ⟨S1x8x128, .f32⟩
  | .local _ .vmem, ⟨23, _⟩ => ⟨S1x32x8x7168, .fp8e4m3⟩
  | .local _ .vmem, ⟨24, _⟩ => ⟨S1x32x8x7168, .fp8e4m3⟩
  | .local _ .vmem, ⟨25, _⟩ => ⟨S1x8x128, .f32⟩
  | .local _ .vmem, ⟨26, _⟩ => ⟨S1x8x128, .f32⟩
  | .local _ .vmem, ⟨27, _⟩ => ⟨S256x4096, .bf16⟩
  | .local _ .vmem, ⟨28, _⟩ => ⟨S256x7168, .f32⟩
  | .local _ .vmem, ⟨29, _⟩ => ⟨S256x128, .f32⟩
  | _, _ => ⟨S4x8192x8x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_4358 : BitVec 32 := 0#32
  let c14_i32 : BitVec 32 := 14#32
  let v8469 : BitVec 32 := Scalar.addi c0_i32_4358 c14_i32
  let c1_i32 : BitVec 32 := 1#32
  ⟨c0_i32_4358, v8469, c1_i32⟩
def k0_mult1 (k0_t1 : Fin k0_t1_loop.trips) : BitVec 32 :=
  let c0_i32_4623 : BitVec 32 := 0#32
  let c0_i32_4358 : BitVec 32 := 0#32
  let c1_i32 : BitVec 32 := 1#32
  let arg22 : BitVec 32 := Scf.iv c0_i32_4358 c1_i32 k0_t1
  let c1_i32_4622 : BitVec 32 := 1#32
  let v9297 : BitVec 32 := Scalar.muli arg22 c1_i32_4622
  let v9298 : BitVec 32 := Scalar.addi c0_i32_4623 v9297
  let c512_i32 : BitVec 32 := 512#32
  let v9299 : BitVec 32 := Scalar.muli v9298 c512_i32
  v9299
def k0_off1 (k0_t1 : Fin k0_t1_loop.trips) : Fin 2 → Nat :=
  let c0_4626 : Index := 0#32
  let c0_i32_4623 : BitVec 32 := 0#32
  let c0_i32_4358 : BitVec 32 := 0#32
  let c1_i32 : BitVec 32 := 1#32
  let arg22 : BitVec 32 := Scf.iv c0_i32_4358 c1_i32 k0_t1
  let c1_i32_4622 : BitVec 32 := 1#32
  let v9297 : BitVec 32 := Scalar.muli arg22 c1_i32_4622
  let v9298 : BitVec 32 := Scalar.addi c0_i32_4623 v9297
  let c512_i32 : BitVec 32 := 512#32
  let v9299 : BitVec 32 := Scalar.muli v9298 c512_i32
  let v9300 : BitVec 32 := v9299
  let v9302 : Index := Scalar.indexCast v9300
  ![0, v9302.toNat]
def k0_off2 (k0_t1 : Fin k0_t1_loop.trips) : Fin 2 → Nat :=
  let c0_4628 : Index := 0#32
  let c0_i32_4623 : BitVec 32 := 0#32
  let c0_i32_4358 : BitVec 32 := 0#32
  let c1_i32 : BitVec 32 := 1#32
  let arg22 : BitVec 32 := Scf.iv c0_i32_4358 c1_i32 k0_t1
  let c1_i32_4622 : BitVec 32 := 1#32
  let v9297 : BitVec 32 := Scalar.muli arg22 c1_i32_4622
  let v9298 : BitVec 32 := Scalar.addi c0_i32_4623 v9297
  let c512_i32 : BitVec 32 := 512#32
  let v9299 : BitVec 32 := Scalar.muli v9298 c512_i32
  let v9300 : BitVec 32 := v9299
  let v9306 : Index := Scalar.indexCast v9300
  ![0, v9306.toNat]
def k0_off3 (k0_t1 : Fin k0_t1_loop.trips) : Fin 2 → Nat :=
  let c0_4644 : Index := 0#32
  let c0_i32_4623 : BitVec 32 := 0#32
  let c0_i32_4358 : BitVec 32 := 0#32
  let c1_i32 : BitVec 32 := 1#32
  let arg22 : BitVec 32 := Scf.iv c0_i32_4358 c1_i32 k0_t1
  let c1_i32_4622 : BitVec 32 := 1#32
  let v9297 : BitVec 32 := Scalar.muli arg22 c1_i32_4622
  let v9298 : BitVec 32 := Scalar.addi c0_i32_4623 v9297
  let c512_i32 : BitVec 32 := 512#32
  let v9299 : BitVec 32 := Scalar.muli v9298 c512_i32
  let v9300 : BitVec 32 := v9299
  let v9358 : Index := Scalar.indexCast v9300
  ![0, v9358.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, c0_i32_0.toNat, v2.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c128_i32 : BitVec 32 := 128#32
  let v1 : BitVec 32 := Scalar.divsi v0 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![arg0.toNat, c0_i32_4.toNat, v17.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c128_i32 : BitVec 32 := 128#32
  let v1 : BitVec 32 := Scalar.divsi v0 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![arg0.toNat, c0_i32_4.toNat, v17.toNat]

abbrev stage0_0 : Fin 2 → Memref sig .tc .vmem S1x512x8x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x8x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x8x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4096x7168 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x7168 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x7168 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S7168x128 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x32x8x128 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x32x8x7168 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ReferenceIdeal.lean ====
abbrev S4x8192x8x128 : Shape := ⟨4, ![4, 8192, 8, 128]⟩
abbrev S4x8192x8 : Shape := ⟨3, ![4, 8192, 8]⟩
abbrev S4x16x8x128 : Shape := ⟨4, ![4, 16, 8, 128]⟩
abbrev S4x16x8 : Shape := ⟨3, ![4, 16, 8]⟩
abbrev S32x128 : Shape := ⟨2, ![32, 128]⟩
abbrev S32x128x7168 : Shape := ⟨3, ![32, 128, 7168]⟩
abbrev S7168 : Shape := ⟨1, ![7168]⟩
abbrev S7168x128 : Shape := ⟨2, ![7168, 128]⟩
abbrev S128 : Shape := ⟨1, ![128]⟩
abbrev S4x512x8x128 : Shape := ⟨4, ![4, 512, 8, 128]⟩
abbrev S4x8x512 : Shape := ⟨3, ![4, 8, 512]⟩
abbrev S4x512x8x7168 : Shape := ⟨4, ![4, 512, 8, 7168]⟩
abbrev S4x8192x8x1 : Shape := ⟨4, ![4, 8192, 8, 1]⟩
abbrev S4x16x8x1 : Shape := ⟨4, ![4, 16, 8, 1]⟩
abbrev S4x512x16x8x128 : Shape := ⟨5, ![4, 512, 16, 8, 128]⟩
abbrev S4x1x16x8x128 : Shape := ⟨5, ![4, 1, 16, 8, 128]⟩
abbrev S4x511x16x8x128 : Shape := ⟨5, ![4, 511, 16, 8, 128]⟩
abbrev S4x512x32x8x128 : Shape := ⟨5, ![4, 512, 32, 8, 128]⟩
abbrev S32x1x128 : Shape := ⟨3, ![32, 1, 128]⟩
abbrev S1x1x32x1x128 : Shape := ⟨5, ![1, 1, 32, 1, 128]⟩
abbrev S4x512x8x32x128 : Shape := ⟨5, ![4, 512, 8, 32, 128]⟩
abbrev S16384x4096 : Shape := ⟨2, ![16384, 4096]⟩
abbrev S4096x7168 : Shape := ⟨2, ![4096, 7168]⟩
abbrev S16384x7168 : Shape := ⟨2, ![16384, 7168]⟩
abbrev S1x7168 : Shape := ⟨2, ![1, 7168]⟩
abbrev S16384 : Shape := ⟨1, ![16384]⟩
abbrev S16384x1 : Shape := ⟨2, ![16384, 1]⟩
abbrev S16384x128 : Shape := ⟨2, ![16384, 128]⟩
abbrev S1x128 : Shape := ⟨2, ![1, 128]⟩
abbrev S4x512x8 : Shape := ⟨3, ![4, 512, 8]⟩

abbrev nBuf : Space → Nat
  | .hbm => 15
  | .vmem => 15
  | .smem => 0
  | _ => 0

abbrev bufTy : (tb : Table) → Fin (tcTables nBuf tb) → BufTy
  | .hbm, ⟨0, _⟩ => ⟨S4x8192x8x128, .fp8e4m3⟩
  | .hbm, ⟨1, _⟩ => ⟨S4x8192x8, .f32⟩
  | .hbm, ⟨2, _⟩ => ⟨S4x16x8x128, .fp8e4m3⟩
  | .hbm, ⟨3, _⟩ => ⟨S4x16x8, .f32⟩
  | .hbm, ⟨4, _⟩ => ⟨S32x128, .f32⟩
  | .hbm, ⟨5, _⟩ => ⟨S32x128x7168, .fp8e4m3⟩
  | .hbm, ⟨6, _⟩ => ⟨S7168, .f32⟩
  | .hbm, ⟨7, _⟩ => ⟨S7168, .f32⟩
  | .hbm, ⟨8, _⟩ => ⟨S7168x128, .fp8e4m3⟩
  | .hbm, ⟨9, _⟩ => ⟨S128, .f32⟩
  | .hbm, ⟨10, _⟩ => ⟨S128, .f32⟩
  | .hbm, ⟨11, _⟩ => ⟨S4x512x8x128, .fp8e4m3⟩
  | .hbm, ⟨12, _⟩ => ⟨S4x8x512, .f32⟩
  | .hbm, ⟨13, _⟩ => ⟨S4x512x8x7168, .fp8e4m3⟩
  | .hbm, ⟨14, _⟩ => ⟨S4x8x512, .f32⟩
  | .local _ .vmem, ⟨0, _⟩ => ⟨S4x8192x8x128, .fp8e4m3⟩
  | .local _ .vmem, ⟨1, _⟩ => ⟨S4x8192x8, .f32⟩
  | .local _ .vmem, ⟨2, _⟩ => ⟨S4x16x8x128, .fp8e4m3⟩
  | .local _ .vmem, ⟨3, _⟩ => ⟨S4x16x8, .f32⟩
  | .local _ .vmem, ⟨4, _⟩ => ⟨S32x128, .f32⟩
  | .local _ .vmem, ⟨5, _⟩ => ⟨S32x128x7168, .fp8e4m3⟩
  | .local _ .vmem, ⟨6, _⟩ => ⟨S7168, .f32⟩
  | .local _ .vmem, ⟨7, _⟩ => ⟨S7168, .f32⟩
  | .local _ .vmem, ⟨8, _⟩ => ⟨S7168x128, .fp8e4m3⟩
  | .local _ .vmem, ⟨9, _⟩ => ⟨S128, .f32⟩
  | .local _ .vmem, ⟨10, _⟩ => ⟨S128, .f32⟩
  | .local _ .vmem, ⟨11, _⟩ => ⟨S4x512x8x128, .fp8e4m3⟩
  | .local _ .vmem, ⟨12, _⟩ => ⟨S4x8x512, .f32⟩
  | .local _ .vmem, ⟨13, _⟩ => ⟨S4x512x8x7168, .fp8e4m3⟩
  | .local _ .vmem, ⟨14, _⟩ => ⟨S4x8x512, .f32⟩
  | _, _ => ⟨S4x8192x8x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S4x8192x8x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x8192x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x16x8x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x16x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x128x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7168 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7168 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7168x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x512x8x128 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x8x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x512x8x7168 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x8x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.Hand.Run.lean ====
/- The body of the idealized kernel run once, at symbolic blocks: what each buffer holds at the end is found by the run. -/
module

public import proofs.«01_k».proof.Proof.Gen.KernelIdeal.Frame
public import proofs.«01_k».proof.Proof.Gen.KernelIdeal.Skeleton
public import proofs.«01_k».proof.Proof.Gen.KernelIdeal.Loops

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 20000000 in
/-- The body's triple: the blocks of the inputs at their contents, the other buffers at any; afterwards the inputs are
    as they were and the others hold what the run finds, a function of what they held. -/
@[irreducible] def bodyRun (c : Dev nD) (i : grid0.Coords) (arg2 : Memref sig .tc .vmem S1x512x8x128 .fp8e4m3) (harg2 : arg2.IsWhole) (arg3 : Memref sig .tc .vmem S1x8x512 .f32) (harg3 : arg3.IsWhole) (arg4 : Memref sig .tc .vmem S1x16x8x128 .fp8e4m3) (harg4 : arg4.IsWhole) (arg5 : Memref sig .tc .vmem S1x8x128 .f32) (harg5 : arg5.IsWhole) (arg6 : Memref sig .tc .vmem S1x16x8x128 .fp8e4m3) (harg6 : arg6.IsWhole) (arg7 : Memref sig .tc .vmem S1x8x16 .f32) (harg7 : arg7.IsWhole) (arg8 : Memref sig .tc .vmem S32x128 .f32) (harg8 : arg8.IsWhole) (arg9 : Memref sig .tc .vmem S4096x7168 .fp8e4m3) (harg9 : arg9.IsWhole) (arg10 : Memref sig .tc .vmem S1x7168 .f32) (harg10 : arg10.IsWhole) (arg11 : Memref sig .tc .vmem S1x7168 .f32) (harg11 : arg11.IsWhole) (arg12 : Memref sig .tc .vmem S7168x128 .fp8e4m3) (harg12 : arg12.IsWhole) (arg13 : Memref sig .tc .vmem S1x128 .f32) (harg13 : arg13.IsWhole) (arg14 : Memref sig .tc .vmem S1x128 .f32) (harg14 : arg14.IsWhole) (arg15 : Memref sig .tc .vmem S1x32x8x128 .fp8e4m3) (harg15 : arg15.IsWhole) (arg16 : Memref sig .tc .vmem S1x8x128 .f32) (harg16 : arg16.IsWhole) (arg17 : Memref sig .tc .vmem S1x32x8x7168 .fp8e4m3) (harg17 : arg17.IsWhole) (arg18 : Memref sig .tc .vmem S1x8x128 .f32) (harg18 : arg18.IsWhole) (arg19 : Memref sig .tc .vmem S256x4096 .bf16) (harg19 : arg19.IsWhole) (arg20 : Memref sig .tc .vmem S256x7168 .f32) (harg20 : arg20.IsWhole) (arg21 : Memref sig .tc .vmem S256x128 .f32) (harg21 : arg21.IsWhole)
    (x0 : Vec F S1x512x8x128 .fp8e4m3) (x1 : Vec F S1x8x512 .f32) (x2 : Vec F S1x16x8x128 .fp8e4m3) (x3 : Vec F S1x8x128 .f32) (x4 : Vec F S1x16x8x128 .fp8e4m3) (x5 : Vec F S1x8x16 .f32) (x6 : Vec F S32x128 .f32) (x7 : Vec F S4096x7168 .fp8e4m3) (x8 : Vec F S1x7168 .f32) (x9 : Vec F S1x7168 .f32) (x10 : Vec F S7168x128 .fp8e4m3) (x11 : Vec F S1x128 .f32) (x12 : Vec F S1x128 .f32)
    (f13 : BufTy.Contents (Elt F) arg15.view.ty) (f14 : BufTy.Contents (Elt F) arg16.view.ty) (f15 : BufTy.Contents (Elt F) arg17.view.ty) (f16 : BufTy.Contents (Elt F) arg18.view.ty) (fs0 : BufTy.Contents (Elt F) arg19.view.ty) (fs1 : BufTy.Contents (Elt F) arg20.view.ty) (fs2 : BufTy.Contents (Elt F) arg21.view.ty) :
    Σ' (O13 : BufTy.Contents (Elt F) arg15.view.ty) (O14 : BufTy.Contents (Elt F) arg16.view.ty) (O15 : BufTy.Contents (Elt F) arg17.view.ty) (O16 : BufTy.Contents (Elt F) arg18.view.ty) (OS0 : BufTy.Contents (Elt F) arg19.view.ty) (OS1 : BufTy.Contents (Elt F) arg20.view.ty), { OS2 : BufTy.Contents (Elt F) arg21.view.ty // ∀ (E : Set ℕ),
      (iprop((View.loc (c : Thread nD τ) arg2.view ↦[arg2.view.set]{fullShare} harg2.unread x0) ∗ (View.loc (c : Thread nD τ) arg3.view ↦[arg3.view.set]{fullShare} harg3.unread x1) ∗ (View.loc (c : Thread nD τ) arg4.view ↦[arg4.view.set]{fullShare} harg4.unread x2) ∗ (View.loc (c : Thread nD τ) arg5.view ↦[arg5.view.set]{fullShare} harg5.unread x3) ∗ (View.loc (c : Thread nD τ) arg6.view ↦[arg6.view.set]{fullShare} harg6.unread x4) ∗ (View.loc (c : Thread nD τ) arg7.view ↦[arg7.view.set]{fullShare} harg7.unread x5) ∗ (View.loc (c : Thread nD τ) arg8.view ↦[arg8.view.set]{fullShare} harg8.unread x6) ∗ (View.loc (c : Thread nD τ) arg9.view ↦[arg9.view.set]{fullShare} harg9.unread x7) ∗ (View.loc (c : Thread nD τ) arg10.view ↦[arg10.view.set]{fullShare} harg10.unread x8) ∗ (View.loc (c : Thread nD τ) arg11.view ↦[arg11.view.set]{fullShare} harg11.unread x9) ∗ (View.loc (c : Thread nD τ) arg12.view ↦[arg12.view.set]{fullShare} harg12.unread x10) ∗ (View.loc (c : Thread nD τ) arg13.view ↦[arg13.view.set]{fullShare} harg13.unread x11) ∗ (View.loc (c : Thread nD τ) arg14.view ↦[arg14.view.set]{fullShare} harg14.unread x12) ∗ (View.loc (c : Thread nD τ) arg15.view ↦[arg15.view.set]{fullShare} f13) ∗ (View.loc (c : Thread nD τ) arg16.view ↦[arg16.view.set]{fullShare} f14) ∗ (View.loc (c : Thread nD τ) arg17.view ↦[arg17.view.set]{fullShare} f15) ∗ (View.loc (c : Thread nD τ) arg18.view ↦[arg18.view.set]{fullShare} f16) ∗ (View.loc (c : Thread nD τ) arg19.view ↦[arg19.view.set]{fullShare} fs0) ∗ (View.loc (c : Thread nD τ) arg20.view ↦[arg20.view.set]{fullShare} fs1) ∗ (View.loc (c : Thread nD τ) arg21.view ↦[arg21.view.set]{fullShare} fs2)) : sProp 𝕄)
      ⊢ wp frame (wpE (defs₀ (F := F)) Variants.none c none) E (cc0_nsa_ck i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
          (fun _ => (iprop((View.loc (c : Thread nD τ) arg2.view ↦[arg2.view.set]{fullShare} harg2.unread x0) ∗ (View.loc (c : Thread nD τ) arg3.view ↦[arg3.view.set]{fullShare} harg3.unread x1) ∗ (View.loc (c : Thread nD τ) arg4.view ↦[arg4.view.set]{fullShare} harg4.unread x2) ∗ (View.loc (c : Thread nD τ) arg5.view ↦[arg5.view.set]{fullShare} harg5.unread x3) ∗ (View.loc (c : Thread nD τ) arg6.view ↦[arg6.view.set]{fullShare} harg6.unread x4) ∗ (View.loc (c : Thread nD τ) arg7.view ↦[arg7.view.set]{fullShare} harg7.unread x5) ∗ (View.loc (c : Thread nD τ) arg8.view ↦[arg8.view.set]{fullShare} harg8.unread x6) ∗ (View.loc (c : Thread nD τ) arg9.view ↦[arg9.view.set]{fullShare} harg9.unread x7) ∗ (View.loc (c : Thread nD τ) arg10.view ↦[arg10.view.set]{fullShare} harg10.unread x8) ∗ (View.loc (c : Thread nD τ) arg11.view ↦[arg11.view.set]{fullShare} harg11.unread x9) ∗ (View.loc (c : Thread nD τ) arg12.view ↦[arg12.view.set]{fullShare} harg12.unread x10) ∗ (View.loc (c : Thread nD τ) arg13.view ↦[arg13.view.set]{fullShare} harg13.unread x11) ∗ (View.loc (c : Thread nD τ) arg14.view ↦[arg14.view.set]{fullShare} harg14.unread x12) ∗ (View.loc (c : Thread nD τ) arg15.view ↦[arg15.view.set]{fullShare} O13) ∗ (View.loc (c : Thread nD τ) arg16.view ↦[arg16.view.set]{fullShare} O14) ∗ (View.loc (c : Thread nD τ) arg17.view ↦[arg17.view.set]{fullShare} O15) ∗ (View.loc (c : Thread nD τ) arg18.view ↦[arg18.view.set]{fullShare} O16) ∗ (View.loc (c : Thread nD τ) arg19.view ↦[arg19.view.set]{fullShare} OS0) ∗ (View.loc (c : Thread nD τ) arg20.view ↦[arg20.view.set]{fullShare} OS1) ∗ (View.loc (c : Thread nD τ) arg21.view ↦[arg21.view.set]{fullShare} OS2)) : sProp 𝕄)) } := by
  refine ⟨?_, ?_, ?_, ?_, ?_, ?_, ?_, fun E => ?run⟩
  case run =>
    simp only [cc0_nsa_ck_eq_skeleton]; unfold cc0_nsa_ck_skel
    simp only [k0_part252_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part253_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part254_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part255_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton]
    iintro ⟨H0, H1, H2, H3, H4, H5, H6, H7, H8, H9, H10, H11, H12, H13, H14, H15, H16, HS0, HS1, HS2⟩
    sl_exec
    sl_step
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [HS0]; · iexact HS0
    isplitl [HS1]; · iexact HS1
    iexact HS2

end Cert.KernelIdeal.Gen

end
-- ==== Proof.Hand.Loop.lean ====
/- What the loop over the hidden columns leaves: the tile of hidden values of every trip, and the running maximum of
   their absolute values. -/
module

public import proofs.«01_k».proof.Proof.Gen.KernelIdeal.Loops
public import Idealize.ShloMosaic.Lib.Pipeline.Value

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The tile of hidden values of trip `k`: the packed block against the trip's columns of the first weight, scaled,
    biased, and through the activation. -/
def hTile (XB : Vec F S256x4096 .bf16) (x7 : Vec F S4096x7168 .fp8e4m3) (x8 x9 : Vec F S1x7168 .f32) (k : Fin k0_t1_loop.trips) : FVec F S256x512 .f32 :=
  k0_pay1227
    (k0_pay5 XB (View.ld x7 (Rect.unit (s := S4096x7168) (k0_off1 k) S4096x512.size (k0_off1_inb k))) (View.ld x8 (Rect.unit (s := S1x7168) (k0_off2 k) S1x512.size (k0_off2_inb k))) (View.ld x9 (Rect.unit (s := S1x7168) (k0_off2 k) S1x512.size (k0_off2_inb k))))
    (k0_pay6 XB (View.ld x7 (Rect.unit (s := S4096x7168) (k0_off1 k) S4096x512.size (k0_off1_inb k))) (View.ld x8 (Rect.unit (s := S1x7168) (k0_off2 k) S1x512.size (k0_off2_inb k))) (View.ld x9 (Rect.unit (s := S1x7168) (k0_off2 k) S1x512.size (k0_off2_inb k))))
    (k0_pay7 XB (View.ld x7 (Rect.unit (s := S4096x7168) (k0_off1 k) S4096x512.size (k0_off1_inb k))) (View.ld x8 (Rect.unit (s := S1x7168) (k0_off2 k) S1x512.size (k0_off2_inb k))) (View.ld x9 (Rect.unit (s := S1x7168) (k0_off2 k) S1x512.size (k0_off2_inb k))))
    k0_pay8

/-- The maximum over the four lane groups of a tile's absolute values, and what was there. -/
def maxStep (H : FVec F S256x512 .f32) (Y : Vec F S256x128 .f32) : Vec F S256x128 .f32 :=
  maximumf (maximumf (maximumf (maximumf Y
    (extractStridedSlice S256x128 ![0, 0] (absf H) slices_S256x512_o0_0_S256x128))
    (extractStridedSlice S256x128 ![0, 128] (absf H) slices_S256x512_o0_128_S256x128))
    (extractStridedSlice S256x128 ![0, 256] (absf H) slices_S256x512_o0_256_S256x128))
    (extractStridedSlice S256x128 ![0, 384] (absf H) slices_S256x512_o0_384_S256x128)

theorem pay1228_eq (a b c d : FVec F S256x512 .f32) : k0_pay1228 a b c d = k0_pay1227 a b c d := shapeCast_self _ _

theorem pay1229_eq (a b c d : FVec F S256x512 .f32) (Y : Vec F S256x128 .f32) : k0_pay1229 a b c d Y = maxStep (k0_pay1227 a b c d) Y :=
  shapeCast_self _ _

/-- The running maximum before trip `k`. -/
def HM (XB : Vec F S256x4096 .bf16) (x7 : Vec F S4096x7168 .fp8e4m3) (x8 x9 : Vec F S1x7168 .f32) : ℕ → Vec F S256x128 .f32
  | 0 => k0_pay1226
  | k + 1 => if h : k < k0_t1_loop.trips then maxStep (hTile XB x7 x8 x9 ⟨k, h⟩) (HM XB x7 x8 x9 k) else HM XB x7 x8 x9 k

theorem trips_eq : k0_t1_loop.trips = 14 := by decide

/-- The hidden values of all trips, side by side. -/
def HF (XB : Vec F S256x4096 .bf16) (x7 : Vec F S4096x7168 .fp8e4m3) (x8 x9 : Vec F S1x7168 .f32) : Vec F S256x7168 .f32 :=
  fun y => hTile XB x7 x8 x9 ⟨(y 1).val / 512, by rw [trips_eq]; have h : (y 1).val < 7168 := (y 1).isLt; omega⟩
    (fun a => match a with
      | ⟨0, _⟩ => (y 0)
      | ⟨1, _⟩ => (⟨(y 1).val % 512, Nat.mod_lt _ (by decide)⟩ : Fin 512))

theorem ld_whole_xb (X : Vec F S256x4096 .bf16) : View.ld X (Rect.unit (s := S256x4096) ![0, 0] S256x4096.size inb_S256x4096_S256x4096_0_0) = X :=
  View.ld_unit_zero (by funext a; fin_cases a <;> rfl) _ X

theorem ld_whole_hm (X : Vec F S256x128 .f32) : View.ld X (Rect.unit (s := S256x128) ![0, 0] S256x128.size inb_S256x128_S256x128_0_0) = X :=
  View.ld_unit_zero (by funext a; fin_cases a <;> rfl) _ X

set_option maxHeartbeats 8000000 in
/-- The pieces one trip writes, named. -/
theorem tripL_eq (𝒱 : Variants) (c : Dev nD) (bd : Option 𝒱.V) (i : grid0.Coords) (arg2 : Memref sig .tc .vmem S1x512x8x128 .fp8e4m3) (harg2 : arg2.IsWhole) (arg3 : Memref sig .tc .vmem S1x8x512 .f32) (harg3 : arg3.IsWhole) (arg4 : Memref sig .tc .vmem S1x16x8x128 .fp8e4m3) (harg4 : arg4.IsWhole) (arg5 : Memref sig .tc .vmem S1x8x128 .f32) (harg5 : arg5.IsWhole) (arg6 : Memref sig .tc .vmem S1x16x8x128 .fp8e4m3) (harg6 : arg6.IsWhole) (arg7 : Memref sig .tc .vmem S1x8x16 .f32) (harg7 : arg7.IsWhole) (arg8 : Memref sig .tc .vmem S32x128 .f32) (harg8 : arg8.IsWhole) (arg9 : Memref sig .tc .vmem S4096x7168 .fp8e4m3) (harg9 : arg9.IsWhole) (arg10 : Memref sig .tc .vmem S1x7168 .f32) (harg10 : arg10.IsWhole) (arg11 : Memref sig .tc .vmem S1x7168 .f32) (harg11 : arg11.IsWhole) (arg12 : Memref sig .tc .vmem S7168x128 .fp8e4m3) (harg12 : arg12.IsWhole) (arg13 : Memref sig .tc .vmem S1x128 .f32) (harg13 : arg13.IsWhole) (arg14 : Memref sig .tc .vmem S1x128 .f32) (harg14 : arg14.IsWhole) (arg15 : Memref sig .tc .vmem S1x32x8x128 .fp8e4m3) (harg15 : arg15.IsWhole) (arg16 : Memref sig .tc .vmem S1x8x128 .f32) (harg16 : arg16.IsWhole) (arg17 : Memref sig .tc .vmem S1x32x8x7168 .fp8e4m3) (harg17 : arg17.IsWhole) (arg18 : Memref sig .tc .vmem S1x8x128 .f32) (harg18 : arg18.IsWhole) (arg19 : Memref sig .tc .vmem S256x4096 .bf16) (harg19 : arg19.IsWhole) (arg20 : Memref sig .tc .vmem S256x7168 .f32) (harg20 : arg20.IsWhole) (arg21 : Memref sig .tc .vmem S256x128 .f32) (harg21 : arg21.IsWhole) (v7952 : Vec F S1x128 .f32) (v8439 : FVec F S8x128 .f32) (v8446 : FVec F S8x128 .f32) (v8452 : FVec F S16x128 .bf16) (X_arg9 : BufTy.Contents (Elt F) arg9.view.ty) (X_arg10 : BufTy.Contents (Elt F) arg10.view.ty) (X_arg11 : BufTy.Contents (Elt F) arg11.view.ty) (X_arg19 : BufTy.Contents (Elt F) arg19.view.ty)  (k : Fin k0_t1_loop.trips) (f20 : BufTy.Contents (Elt F) arg20.view.ty) (f21 : BufTy.Contents (Elt F) arg21.view.ty)
    (XB : Vec F S256x4096 .bf16) (x7 : Vec F S4096x7168 .fp8e4m3) (x8 x9 : Vec F S1x7168 .f32)
    (e9 : X_arg9 = harg9.unread x7) (e10 : X_arg10 = harg10.unread x8) (e11 : X_arg11 = harg11.unread x9) (e19 : X_arg19 = harg19.unread XB) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v7952 v8439 v8446 v8452 X_arg9 X_arg10 X_arg11 X_arg19 k f20 f21
      = ([⟨Rect.unit (s := S256x7168) (k0_off3 k) S256x512.size (k0_off3_inb k), hTile XB x7 x8 x9 k⟩],
         [⟨Rect.unit (s := S256x128) ![0, 0] S256x128.size inb_S256x128_S256x128_0_0, maxStep (hTile XB x7 x8 x9 k) (arg21.view.read (Elt F) f21)⟩]) := by
  subst e9 e10 e11 e19
  unfold tripL_k0_t1 trip_k0_t1
  dsimp only
  unfold trip_k0_t1.sl.r trip_k0_t1.sl.r_1 trip_k0_t1.sl.r_2
  simp only [View.readAt_eq_ld, harg9.read_unread, harg10.read_unread, harg11.read_unread, harg19.read_unread]
  rw [ld_whole_xb, ld_whole_hm, pay1228_eq, pay1229_eq]
  rfl

theorem off3_0 (k : Fin k0_t1_loop.trips) : k0_off3 k 0 = 0 := rfl
theorem off3_1 (k : Fin k0_t1_loop.trips) : k0_off3 k 1 = 512 * k.val := by
  rw [k0_off3_eq]; rfl

set_option maxHeartbeats 8000000 in
/-- After `n` trips: the hidden values of the trips done stand in their columns, and the running maximum is theirs. -/
theorem pb_spec (𝒱 : Variants) (c : Dev nD) (bd : Option 𝒱.V) (i : grid0.Coords) (arg2 : Memref sig .tc .vmem S1x512x8x128 .fp8e4m3) (harg2 : arg2.IsWhole) (arg3 : Memref sig .tc .vmem S1x8x512 .f32) (harg3 : arg3.IsWhole) (arg4 : Memref sig .tc .vmem S1x16x8x128 .fp8e4m3) (harg4 : arg4.IsWhole) (arg5 : Memref sig .tc .vmem S1x8x128 .f32) (harg5 : arg5.IsWhole) (arg6 : Memref sig .tc .vmem S1x16x8x128 .fp8e4m3) (harg6 : arg6.IsWhole) (arg7 : Memref sig .tc .vmem S1x8x16 .f32) (harg7 : arg7.IsWhole) (arg8 : Memref sig .tc .vmem S32x128 .f32) (harg8 : arg8.IsWhole) (arg9 : Memref sig .tc .vmem S4096x7168 .fp8e4m3) (harg9 : arg9.IsWhole) (arg10 : Memref sig .tc .vmem S1x7168 .f32) (harg10 : arg10.IsWhole) (arg11 : Memref sig .tc .vmem S1x7168 .f32) (harg11 : arg11.IsWhole) (arg12 : Memref sig .tc .vmem S7168x128 .fp8e4m3) (harg12 : arg12.IsWhole) (arg13 : Memref sig .tc .vmem S1x128 .f32) (harg13 : arg13.IsWhole) (arg14 : Memref sig .tc .vmem S1x128 .f32) (harg14 : arg14.IsWhole) (arg15 : Memref sig .tc .vmem S1x32x8x128 .fp8e4m3) (harg15 : arg15.IsWhole) (arg16 : Memref sig .tc .vmem S1x8x128 .f32) (harg16 : arg16.IsWhole) (arg17 : Memref sig .tc .vmem S1x32x8x7168 .fp8e4m3) (harg17 : arg17.IsWhole) (arg18 : Memref sig .tc .vmem S1x8x128 .f32) (harg18 : arg18.IsWhole) (arg19 : Memref sig .tc .vmem S256x4096 .bf16) (harg19 : arg19.IsWhole) (arg20 : Memref sig .tc .vmem S256x7168 .f32) (harg20 : arg20.IsWhole) (arg21 : Memref sig .tc .vmem S256x128 .f32) (harg21 : arg21.IsWhole) (v7952 : Vec F S1x128 .f32) (v8439 : FVec F S8x128 .f32) (v8446 : FVec F S8x128 .f32) (v8452 : FVec F S16x128 .bf16) (X_arg9 : BufTy.Contents (Elt F) arg9.view.ty) (X_arg10 : BufTy.Contents (Elt F) arg10.view.ty) (X_arg11 : BufTy.Contents (Elt F) arg11.view.ty) (X_arg19 : BufTy.Contents (Elt F) arg19.view.ty) (G_arg20 : BufTy.Contents (Elt F) arg20.view.ty) (G_arg21 : BufTy.Contents (Elt F) arg21.view.ty)
    (XB : Vec F S256x4096 .bf16) (x7 : Vec F S4096x7168 .fp8e4m3) (x8 x9 : Vec F S1x7168 .f32)
    (e9 : X_arg9 = harg9.unread x7) (e10 : X_arg10 = harg10.unread x8) (e11 : X_arg11 = harg11.unread x9) (e19 : X_arg19 = harg19.unread XB)
    (eG : arg21.view.read (Elt F) G_arg21 = k0_pay1226) (n : ℕ) (hn : n ≤ k0_t1_loop.trips) :
    (∀ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v7952 v8439 v8446 v8452 X_arg9 X_arg10 X_arg11 X_arg19 G_arg20 G_arg21 n).1, ∀ x, p.2 x = HF XB x7 x8 x9 (p.1.emb x))
    ∧ (∀ y : Shape.Idx S256x7168, (y 1).val < 512 * n → ∃ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v7952 v8439 v8446 v8452 X_arg9 X_arg10 X_arg11 X_arg19 G_arg20 G_arg21 n).1, y ∈ p.1.set)
    ∧ arg21.view.read (Elt F) (arg21.view.writes (Elt F) G_arg21 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v7952 v8439 v8446 v8452 X_arg9 X_arg10 X_arg11 X_arg19 G_arg20 G_arg21 n).2) = HM XB x7 x8 x9 n := by
  induction n with
  | zero =>
    refine ⟨fun p hp => absurd hp (by rw [pb_k0_t1]; exact List.not_mem_nil), fun y hy => absurd hy (by omega), ?_⟩
    rw [pb_k0_t1]; exact eG
  | succ n ih =>
    obtain ⟨i1, i2, i3⟩ := ih (by omega)
    have hs := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v7952 v8439 v8446 v8452 X_arg9 X_arg10 X_arg11 X_arg19 G_arg20 G_arg21 ⟨n, hn⟩
    rw [tripL_eq (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v7952 v8439 v8446 v8452 X_arg9 X_arg10 X_arg11 X_arg19 ⟨n, hn⟩ _ _ XB x7 x8 x9 e9 e10 e11 e19] at hs
    rw [hs]
    refine ⟨?_, ?_, ?_⟩
    · intro p hp
      rcases List.mem_append.mp hp with h | h
      · obtain rfl := List.mem_singleton.mp h
        intro x
        have h1 : (((Rect.unit (s := S256x7168) (k0_off3 ⟨n, hn⟩) S256x512.size (k0_off3_inb ⟨n, hn⟩)).emb x) 1).val = 512 * n + (x 1).val := by
          show k0_off3 ⟨n, hn⟩ 1 + 1 * (x 1).val = _
          rw [off3_1, one_mul]
        have h0 : (((Rect.unit (s := S256x7168) (k0_off3 ⟨n, hn⟩) S256x512.size (k0_off3_inb ⟨n, hn⟩)).emb x) 0).val = (x 0).val := by
          show k0_off3 ⟨n, hn⟩ 0 + 1 * (x 0).val = _
          rw [off3_0]; omega
        have hx : (x 1).val < 512 := (x 1).isLt
        show hTile XB x7 x8 x9 ⟨n, hn⟩ x = hTile XB x7 x8 x9 _ _
        congr 1
        · apply Fin.ext; show n = _ / 512; rw [h1]; omega
        · funext a
          match a with
          | ⟨0, _⟩ => apply Fin.ext; exact h0.symm
          | ⟨1, _⟩ => apply Fin.ext; show (x 1).val = _ % 512; rw [h1]; omega
      · exact i1 p h
    · intro y hy
      by_cases h : (y 1).val < 512 * n
      · obtain ⟨p, hp, hyp⟩ := i2 y h
        exact ⟨p, List.mem_append_right _ hp, hyp⟩
      · refine ⟨⟨Rect.unit (s := S256x7168) (k0_off3 ⟨n, hn⟩) S256x512.size (k0_off3_inb ⟨n, hn⟩), hTile XB x7 x8 x9 ⟨n, hn⟩⟩,
          List.mem_append_left _ (List.mem_singleton.mpr rfl), ?_⟩
        have hy0 : (y 0).val < 256 := (y 0).isLt
        refine (Rect.mem_set_unit (inb := k0_off3_inb ⟨n, hn⟩)).mpr fun a => ?_
        match a with
        | ⟨0, _⟩ =>
          show k0_off3 ⟨n, hn⟩ 0 ≤ (y 0).val ∧ (y 0).val < k0_off3 ⟨n, hn⟩ 0 + 256
          rw [off3_0]; exact ⟨Nat.zero_le _, by omega⟩
        | ⟨1, _⟩ =>
          show k0_off3 ⟨n, hn⟩ 1 ≤ (y 1).val ∧ (y 1).val < k0_off3 ⟨n, hn⟩ 1 + 512
          rw [off3_1]; exact ⟨by show 512 * n ≤ _; omega, by show _ < 512 * n + 512; omega⟩
    · rw [View.writes_append]
      have hw : ∀ (f : BufTy.Contents (Elt F) arg21.view.ty) (w : Vec F S256x128 .f32),
          arg21.view.read (Elt F) (arg21.view.writes (Elt F) f [⟨Rect.unit (s := S256x128) ![0, 0] S256x128.size inb_S256x128_S256x128_0_0, w⟩]) = w := by
        intro f w
        funext y
        refine View.read_writes_cons_hit_of_coords arg21.view f (Rect.unit (s := S256x128) ![0, 0] S256x128.size inb_S256x128_S256x128_0_0) w [] y y fun a => ?_
        match a with
        | ⟨0, _⟩ => show (y 0).val = 0 + 1 * (y 0).val; omega
        | ⟨1, _⟩ => show (y 1).val = 0 + 1 * (y 1).val; omega
      have hH : HM XB x7 x8 x9 (n + 1) = maxStep (hTile XB x7 x8 x9 ⟨n, hn⟩) (HM XB x7 x8 x9 n) := by
        rw [HM]; exact dif_pos (show n < k0_t1_loop.trips from hn)
      rw [hH, ← i3]
      exact hw _ _

end Cert.KernelIdeal.Gen

end
-- ==== Proof.Hand.Xb.lean ====
/- The packed block: what the body writes to its first scratch buffer, read as one matrix whose row is a position and a
   head, and whose columns are the 32 tokens of the position's window, 128 features each. -/
module

public import proofs.«01_k».proof.Proof.Hand.Run
import all proofs.«01_k».proof.Proof.Hand.Run
public import Idealize.ShloMosaic.Lib.Pipeline.Value
public import Idealize.ShloMosaic.Lib.Pointwise

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The dequantised features of token `s`. -/
def tok (x0 : Vec Ideal S1x512x8x128 .fp8e4m3) (x1 : Vec Ideal S1x8x512 .f32) (s : ℕ) (hs : s < 512) : FVec Ideal S8x128 .f32 :=
  k0_pay10 (View.ld x0 (Rect.unit (s := S1x512x8x128) ![0, s, 0, 0] S1x1x8x128.size (by intro a; fin_cases a <;> simp <;> omega)))
    (View.ld x1 (Rect.unit (s := S1x8x512) ![0, 0, s] S1x8x1.size (by intro a; fin_cases a <;> simp <;> omega)))

/-- One row of the position embedding. -/
def posr (x6 : Vec Ideal S32x128 .f32) (p : ℕ) (hp : p < 32) : Vec Ideal S1x128 .f32 :=
  View.ld x6 (Rect.unit (s := S32x128) ![p, 0] S1x128.size (by intro a; fin_cases a <;> simp <;> omega))

/-- Token `j` of the window before the first position: the previous chunk's at the first block, else the block before's. -/
def firstv (i : grid0.Coords) (x2 : Vec Ideal S1x16x8x128 .fp8e4m3) (x3 : Vec Ideal S1x8x128 .f32) (x4 : Vec Ideal S1x16x8x128 .fp8e4m3)
    (x5 : Vec Ideal S1x8x16 .f32) (j q : ℕ) (hj : j < 16) (hq : q < 128) : FVec Ideal S8x128 .f32 :=
  k0_pay9 i (View.ld x2 (Rect.unit (s := S1x16x8x128) ![0, j, 0, 0] S1x1x8x128.size (by intro a; fin_cases a <;> simp <;> omega)))
    (View.ld x3 (Rect.unit (s := S1x8x128) ![0, 0, q] S1x8x1.size (by intro a; fin_cases a <;> simp <;> omega)))
    (View.ld x4 (Rect.unit (s := S1x16x8x128) ![0, j, 0, 0] S1x1x8x128.size (by intro a; fin_cases a <;> simp <;> omega)))
    (View.ld x5 (Rect.unit (s := S1x8x16) ![0, 0, j] S1x8x1.size (by intro a; fin_cases a <;> simp <;> omega)))

/-- Token `kk` of position `n`'s window: tokens overlap by half a window. -/
def seg (i : grid0.Coords) (x0 : Vec Ideal S1x512x8x128 .fp8e4m3) (x1 : Vec Ideal S1x8x512 .f32) (x2 : Vec Ideal S1x16x8x128 .fp8e4m3)
    (x3 : Vec Ideal S1x8x128 .f32) (x4 : Vec Ideal S1x16x8x128 .fp8e4m3) (x5 : Vec Ideal S1x8x16 .f32) (n kk : ℕ) (hn : n < 32) (hk : kk < 32) :
    FVec Ideal S8x128 .f32 :=
  if h : 16 * n + kk < 16 then firstv i x2 x3 x4 x5 kk (112 + kk) (by omega) (by omega) else tok x0 x1 (16 * n + kk - 16) (by omega)

/-- The packed block. -/
def XB (i : grid0.Coords) (x0 : Vec Ideal S1x512x8x128 .fp8e4m3) (x1 : Vec Ideal S1x8x512 .f32) (x2 : Vec Ideal S1x16x8x128 .fp8e4m3)
    (x3 : Vec Ideal S1x8x128 .f32) (x4 : Vec Ideal S1x16x8x128 .fp8e4m3) (x5 : Vec Ideal S1x8x16 .f32) (x6 : Vec Ideal S32x128 .f32) :
    Vec Ideal S256x4096 .bf16 := fun y =>
  have h0 : (y 0).val < 256 := (y 0).isLt
  have h1 : (y 1).val < 4096 := (y 1).isLt
  (seg i x0 x1 x2 x3 x4 x5 ((y 0).val / 8) ((y 1).val / 128) (by omega) (by omega)
      (ix2 (⟨(y 0).val % 8, by omega⟩ : Fin 8) (⟨(y 1).val % 128, by omega⟩ : Fin 128)) : EReal)
    + posr x6 ((y 1).val / 128) (by omega) (ix2 (0 : Fin 1) (⟨(y 1).val % 128, by omega⟩ : Fin 128))

theorem pay19_apply (p : Vec Ideal S1x128 .f32) (a b : FVec Ideal S8x128 .f32) (r : Fin 16) (c : Fin 128) :
    k0_pay19 p a b (ix2 r c) = (if h : r.val < 8 then a (ix2 (⟨r.val, h⟩ : Fin 8) c) else b (ix2 (⟨r.val - 8, by omega⟩ : Fin 8) c)) + p (ix2 (0 : Fin 1) c) := by
  pointwise [k0_pay19]
  split <;> rfl

section
variable (i : grid0.Coords) (x0 : Vec Ideal S1x512x8x128 .fp8e4m3) (x1 : Vec Ideal S1x8x512 .f32) (x2 : Vec Ideal S1x16x8x128 .fp8e4m3)
    (x3 : Vec Ideal S1x8x128 .f32) (x4 : Vec Ideal S1x16x8x128 .fp8e4m3) (x5 : Vec Ideal S1x8x16 .f32) (x6 : Vec Ideal S32x128 .f32)

theorem seg_congr {n n' kk kk' : ℕ} {hn hn' hk hk'} (e : n = n') (e' : kk = kk') :
    seg i x0 x1 x2 x3 x4 x5 n kk hn hk = seg i x0 x1 x2 x3 x4 x5 n' kk' hn' hk' := by subst e e'; rfl

theorem posr_congr {p p' : ℕ} {h h'} (e : p = p') : posr x6 p h = posr x6 p' h' := by subst e; rfl

/-- A piece of two positions' rows and one token's columns is the packed block's there. -/
theorem xb_piece (o0 o1 n kk : ℕ) (hn : n + 1 < 32) (hk : kk < 32) (inb) (e0 : o0 = 8 * n) (e1 : o1 = 128 * kk)
    (x : Shape.Idx S16x128) :
    k0_pay19 (posr x6 kk hk) (seg i x0 x1 x2 x3 x4 x5 n kk (by omega) hk) (seg i x0 x1 x2 x3 x4 x5 (n + 1) kk hn hk) x
      = XB i x0 x1 x2 x3 x4 x5 x6 ((Rect.unit (s := S256x4096) ![o0, o1] S16x128.size inb).emb x) := by
  have hx0 : (x 0).val < 16 := (x 0).isLt
  have hx1 : (x 1).val < 128 := (x 1).isLt
  have c0 : (((Rect.unit (s := S256x4096) ![o0, o1] S16x128.size inb).emb x) 0).val = 8 * n + (x 0).val := by
    show o0 + 1 * (x 0).val = _; omega
  have c1 : (((Rect.unit (s := S256x4096) ![o0, o1] S16x128.size inb).emb x) 1).val = 128 * kk + (x 1).val := by
    show o1 + 1 * (x 1).val = _; omega
  have ex : x = ix2 (⟨(x 0).val, hx0⟩ : Fin 16) (⟨(x 1).val, hx1⟩ : Fin 128) := by
    funext a; match a with
    | ⟨0, _⟩ => rfl
    | ⟨1, _⟩ => rfl
  rw [ex, pay19_apply, ← ex]
  unfold XB
  simp only [c0, c1]
  have k1 : (128 * kk + (x 1).val) / 128 = kk := by omega
  have k2 : (128 * kk + (x 1).val) % 128 = (x 1).val := by omega
  congr 1
  · by_cases h : (x 0).val < 8
    · rw [dif_pos h]
      rw [seg_congr i x0 x1 x2 x3 x4 x5 (show (8 * n + (x 0).val) / 8 = n by omega) k1 (hn' := by omega) (hk' := hk)]
      congr 2 <;> apply Fin.ext <;> dsimp only <;> omega
    · rw [dif_neg h]
      rw [seg_congr i x0 x1 x2 x3 x4 x5 (show (8 * n + (x 0).val) / 8 = n + 1 by omega) k1 (hn' := hn) (hk' := hk)]
      congr 2 <;> apply Fin.ext <;> dsimp only <;> omega
  · rw [posr_congr x6 k1 (h' := hk)]
    congr 2; apply Fin.ext; dsimp only; omega

/-- A piece whose two positions both read the block's own tokens. -/
theorem xb_tok (o0 o1 s s' kk : ℕ) (hs : s < 512) (hs' : s' < 512) (hk : kk < 32) (inb)
    (h : (decide (o0 % 16 = 0) && decide (o1 = 128 * kk) && decide (s + 16 = 2 * o0 + kk) && decide (s' = s + 16)) = true) :
    ∀ x, k0_pay19 (posr x6 kk hk) (tok x0 x1 s hs) (tok x0 x1 s' hs') x
      = XB i x0 x1 x2 x3 x4 x5 x6 ((Rect.unit (s := S256x4096) ![o0, o1] S16x128.size inb).emb x) := by
  intro x
  simp only [Bool.and_eq_true, decide_eq_true_eq] at h
  obtain ⟨⟨⟨h0, h1⟩, h2⟩, h3⟩ := h
  have hb : o0 + 16 ≤ 256 := inb 0
  rw [← xb_piece i x0 x1 x2 x3 x4 x5 x6 o0 o1 (o0 / 8) kk (by omega) hk inb (by omega) h1 x]
  unfold seg
  rw [dif_neg (by omega), dif_neg (by omega)]
  congr 2 <;> omega

/-- A piece whose first position reads the tokens before the block. -/
theorem xb_first (o1 q s' kk : ℕ) (hj : kk < 16) (hq : q < 128) (hs' : s' < 512) (hk : kk < 32) (inb)
    (h : (decide (o1 = 128 * kk) && decide (q = 112 + kk) && decide (s' = kk)) = true) :
    ∀ x, k0_pay19 (posr x6 kk hk) (firstv i x2 x3 x4 x5 kk q hj hq) (tok x0 x1 s' hs') x
      = XB i x0 x1 x2 x3 x4 x5 x6 ((Rect.unit (s := S256x4096) ![0, o1] S16x128.size inb).emb x) := by
  intro x
  simp only [Bool.and_eq_true, decide_eq_true_eq] at h
  obtain ⟨⟨h1, h2⟩, h3⟩ := h
  subst h2 h3
  rw [← xb_piece i x0 x1 x2 x3 x4 x5 x6 0 o1 0 s' (by omega) hk inb (by omega) h1 x]
  unfold seg
  rw [dif_pos (by omega), dif_neg (by omega)]
  congr 2; omega

theorem inbOf {o0 o1 : ℕ} (h0 : o0 ≤ 240) (h1 : o1 ≤ 3968) : ∀ a : Fin S256x4096.rank, ![o0, o1] a + S16x128.size a ≤ S256x4096.size a := by
  intro a
  match a with
  | ⟨0, _⟩ => show o0 + 16 ≤ 256; omega
  | ⟨1, _⟩ => show o1 + 128 ≤ 4096; omega

/-- As `xb_tok`, the tokens being those the rectangle says. -/
theorem xb_tok' (o0 o1 : ℕ) (v : FVec Ideal S16x128 .bf16) (hk : o1 / 128 < 32) (hs : 2 * o0 + o1 / 128 - 16 < 512) (hs' : 2 * o0 + o1 / 128 < 512)
    (h0 : o0 ≤ 240) (h1 : o1 ≤ 3968)
    (h : (decide (o0 % 16 = 0) && decide (o1 % 128 = 0) && decide (16 ≤ 2 * o0 + o1 / 128)) = true)
    (hv : v = k0_pay19 (posr x6 (o1 / 128) hk) (tok x0 x1 (2 * o0 + o1 / 128 - 16) hs) (tok x0 x1 (2 * o0 + o1 / 128) hs')) :
    ∀ x, v x = XB i x0 x1 x2 x3 x4 x5 x6 ((Rect.unit (s := S256x4096) ![o0, o1] S16x128.size (inbOf h0 h1)).emb x) := by
  subst hv
  simp only [Bool.and_eq_true, decide_eq_true_eq] at h
  refine xb_tok i x0 x1 x2 x3 x4 x5 x6 o0 o1 _ _ _ hs hs' hk _ ?_
  simp only [Bool.and_eq_true, decide_eq_true_eq, and_true]
  omega

/-- As `xb_first`, the tokens being those the rectangle says. -/
theorem xb_first' (o1 : ℕ) (v : FVec Ideal S16x128 .bf16) (hk : o1 / 128 < 32) (hj : o1 / 128 < 16) (hq : 112 + o1 / 128 < 128) (hs' : o1 / 128 < 512)
    (h1 : o1 ≤ 3968)
    (h : decide (o1 % 128 = 0) = true)
    (hv : v = k0_pay19 (posr x6 (o1 / 128) hk) (firstv i x2 x3 x4 x5 (o1 / 128) (112 + o1 / 128) hj hq) (tok x0 x1 (o1 / 128) hs')) :
    ∀ x, v x = XB i x0 x1 x2 x3 x4 x5 x6 ((Rect.unit (s := S256x4096) ![0, o1] S16x128.size (inbOf (Nat.zero_le _) h1)).emb x) := by
  subst hv
  simp only [decide_eq_true_eq] at h
  refine xb_first i x0 x1 x2 x3 x4 x5 x6 o1 _ _ _ hj hq hs' hk _ ?_
  simp only [Bool.and_eq_true, decide_eq_true_eq, and_true]
  omega
end

set_option maxHeartbeats 40000000 in
/-- Every piece written is the packed block's there. -/
theorem hs0_pieces (i : grid0.Coords) (arg2 : Memref sig .tc .vmem S1x512x8x128 .fp8e4m3) (harg2 : arg2.IsWhole) (arg3 : Memref sig .tc .vmem S1x8x512 .f32) (harg3 : arg3.IsWhole) (arg4 : Memref sig .tc .vmem S1x16x8x128 .fp8e4m3) (harg4 : arg4.IsWhole) (arg5 : Memref sig .tc .vmem S1x8x128 .f32) (harg5 : arg5.IsWhole) (arg6 : Memref sig .tc .vmem S1x16x8x128 .fp8e4m3) (harg6 : arg6.IsWhole) (arg7 : Memref sig .tc .vmem S1x8x16 .f32) (harg7 : arg7.IsWhole) (arg8 : Memref sig .tc .vmem S32x128 .f32) (harg8 : arg8.IsWhole)
    (x0 : Vec Ideal S1x512x8x128 .fp8e4m3) (x1 : Vec Ideal S1x8x512 .f32) (x2 : Vec Ideal S1x16x8x128 .fp8e4m3)
    (x3 : Vec Ideal S1x8x128 .f32) (x4 : Vec Ideal S1x16x8x128 .fp8e4m3) (x5 : Vec Ideal S1x8x16 .f32) (x6 : Vec Ideal S32x128 .f32) :
    ∀ p ∈ bodyRun.sl.HS0_512 (F := Ideal) i arg2 harg2 arg3 harg3 arg4 harg4 arg5 harg5 arg6 harg6 arg7 harg7 arg8 harg8 x0 x1 x2 x3 x4 x5 x6, ∀ x,
      p.2 x = XB i (arg2.view.read (Elt Ideal) (harg2.unread x0)) (arg3.view.read (Elt Ideal) (harg3.unread x1)) (arg4.view.read (Elt Ideal) (harg4.unread x2))
        (arg5.view.read (Elt Ideal) (harg5.unread x3)) (arg6.view.read (Elt Ideal) (harg6.unread x4)) (arg7.view.read (Elt Ideal) (harg7.unread x5))
        (arg8.view.read (Elt Ideal) (harg8.unread x6)) (p.1.emb x) := by
  unfold bodyRun.sl.HS0_512
  generalize hX : XB i _ _ _ _ _ _ _ = X
  iterate 16
    iterate 31
      refine List.forall_mem_cons.mpr ⟨?_, ?_⟩
      · subst hX; refine xb_tok' i _ _ _ _ _ _ _ _ _ _ (by decide) (by decide) (by decide) (by decide) (by decide) (by decide) ?_; rfl
    refine List.forall_mem_cons.mpr ⟨?_, ?_⟩
    · subst hX; refine xb_first' i _ _ _ _ _ _ _ _ _ (by decide) (by decide) (by decide) (by decide) (by decide) (by decide) ?_; rfl
  exact fun p hp => absurd hp List.not_mem_nil

end Cert.KernelIdeal.Gen

end
-- ==== Proof.Hand.Tail.lean ====
/- What the body leaves in its four result blocks, by name: the codes and the scales as functions of the input blocks
   alone, and of what the two scale blocks held before. -/
module

public import proofs.«01_k».proof.Proof.Hand.Run
import all proofs.«01_k».proof.Proof.Hand.Run
public import proofs.«01_k».proof.Proof.Hand.Loop
public import proofs.«01_k».proof.Proof.Hand.Xb
public import Idealize.ShloMosaic.Lib.Pipeline.Value

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The reciprocal of the scale of every row, off the running maxima of the rows. -/
def INVv (M : Vec Ideal S256x128 .f32) : FVec Ideal S256x1 .f32 :=
  k0_pay1236 (k0_pay1230 M) (k0_pay1233 (k0_pay1230 M) (k0_pay1231 M) (k0_pay1232 M) 23#32)
    (k0_pay1234 (k0_pay1230 M) (k0_pay1231 M) (k0_pay1232 M) 23#32) 23#32

/-- The scale of every row. -/
def SCv (M : Vec Ideal S256x128 .f32) : FVec Ideal S256x1 .f32 :=
  k0_pay1237 (k0_pay1230 M) (k0_pay1233 (k0_pay1230 M) (k0_pay1231 M) (k0_pay1232 M) 23#32)
    (k0_pay1234 (k0_pay1230 M) (k0_pay1231 M) (k0_pay1232 M) 23#32) 23#32

/-- Tile `n` of the hidden values, and of the second weight. -/
def Ht (H : Vec Ideal S256x7168 .f32) (n : ℕ) (hn : n < 14) : Vec Ideal S256x512 .f32 :=
  View.ld H (Rect.unit (s := S256x7168) ![0, 512 * n] S256x512.size (by intro a; fin_cases a <;> simp <;> omega))
def Wt (W : Vec Ideal S7168x128 .fp8e4m3) (n : ℕ) (hn : n < 14) : Vec Ideal S512x128 .fp8e4m3 :=
  View.ld W (Rect.unit (s := S7168x128) ![512 * n, 0] S512x128.size (by intro a; fin_cases a <;> simp <;> omega))

/-- The accumulator of the second contraction after `2 * n` tiles. -/
def accV (inv : FVec Ideal S256x1 .f32) (H : Vec Ideal S256x7168 .f32) (W : Vec Ideal S7168x128 .fp8e4m3) : ℕ → FVec Ideal S256x256 .f32
  | 0 => k0_pay1238
  | n + 1 => if h : n < 7 then
      k0_pay1244 inv (accV inv H W n) (k0_pay1242 inv (Ht H (2 * n) (by omega))) (Wt W (2 * n) (by omega)) (Ht H (2 * n + 1) (by omega)) (Wt W (2 * n + 1) (by omega))
    else accV inv H W n

/-- The second layer's value, off the accumulator. -/
def CKv (sc : FVec Ideal S256x1 .f32) (acc : FVec Ideal S256x256 .f32) (x11 x12 : Vec Ideal S1x128 .f32) : FVec Ideal S256x128 .f32 :=
  addf (mulf (mulf (extractStridedSlice S256x128 ![0, 0] acc slices_S256x256_o0_0_S256x128) (broadcastTo S256x128 sc broadcasts_S256x1_S256x128))
    (broadcastTo S256x128 (shapeCast S1x128 x11 shapeCasts_S1x128_S1x128) broadcasts_S1x128_S256x128))
    (broadcastTo S256x128 (shapeCast S1x128 x12 shapeCasts_S1x128_S1x128) broadcasts_S1x128_S256x128)

/-- The scale of every row of the second layer, and its codes. -/
def CSv (ck : FVec Ideal S256x128 .f32) : FVec Ideal S256x1 .f32 := k0_pay1285 (k0_pay1283 (k0_pay1281 ck) (k0_pay1282 ck))
def CCv (ck : FVec Ideal S256x128 .f32) : Vec Ideal S1x32x8x128 .fp8e4m3 := k0_pay1286 ck (k0_pay1284 (k0_pay1281 ck) (k0_pay1282 ck))

/-- The code of one hidden value. -/
def hq (inv : FVec Ideal S256x1 .f32) (H : Vec Ideal S256x7168 .f32) (r : Fin 256) (c : Fin 7168) : EReal :=
  min (FloatOps.ofBits (F := Ideal) .f32 0x43E00000#32) (max (FloatOps.ofBits (F := Ideal) .f32 0xC3E00000#32) ((H (ix2 r c) : EReal) * inv (ix2 r (0 : Fin 1))))

/-- The codes of the hidden values. -/
def HCv (inv : FVec Ideal S256x1 .f32) (H : Vec Ideal S256x7168 .f32) : Vec Ideal S1x32x8x7168 .fp8e4m3 := fun y =>
  have h1 : (y 1).val < 32 := (y 1).isLt
  have h2 : (y 2).val < 8 := (y 2).isLt
  hq inv H ⟨(y 1).val * 8 + (y 2).val, by omega⟩ (y 3)

/-- The scales of a block put in their 32 lanes, the other lanes as they were. -/
def selV (i : grid0.Coords) (sc : FVec Ideal S256x1 .f32) (prev : Vec Ideal S1x8x128 .f32) : Vec Ideal S1x8x128 .f32 :=
  k0_pay3 sc bodyRun.sl.v8923 (bodyRun.sl.v8934 i) (k0_pay1329 sc bodyRun.sl.v8923 (bodyRun.sl.v8934 i) (k0_pay1322 sc bodyRun.sl.v8923 (bodyRun.sl.v8934 i)
    (k0_pay1315 sc bodyRun.sl.v8923 (bodyRun.sl.v8934 i) (k0_pay1308 sc bodyRun.sl.v8923 (bodyRun.sl.v8934 i) (k0_pay1301 sc bodyRun.sl.v8923 (bodyRun.sl.v8934 i)
    (k0_pay1294 sc bodyRun.sl.v8923 (bodyRun.sl.v8934 i) (k0_pay1287 prev) (bodyRun.sl.v8939 i)) (bodyRun.sl.v8994 i)) (bodyRun.sl.v9049 i)) (bodyRun.sl.v9104 i))
    (bodyRun.sl.v9159 i)) (bodyRun.sl.v9214 i)) (bodyRun.sl.v9269 i)

theorem junk_hm (arg21 : Memref sig .tc .vmem S256x128 .f32) :
    arg21.view.read (Elt Ideal) (arg21.view.writes (Elt Ideal) arg21.view.junk (bodyRun.sl.HS2_1 (F := Ideal))) = k0_pay1226 (F := Ideal) := by
  funext y
  refine View.read_writes_apply_of_pieces (Val := Elt Ideal) _ _ (show Vec Ideal S256x128 .f32 from k0_pay1226 (F := Ideal)) _ ?_ y ?_
  · intro p hp x
    obtain rfl := List.mem_singleton.mp hp
    exact congrFun (ld_whole_hm (F := Ideal) (show Vec Ideal S256x128 .f32 from k0_pay1226 (F := Ideal))).symm x
  · exact View.cover_of_tiledL _ ![256, 128] (by sl_kernel_rfl) y

/-- The packed block is what the first scratch buffer holds. -/
theorem xb_read (c : Dev nD) (i : grid0.Coords) (arg2 : Memref sig .tc .vmem S1x512x8x128 .fp8e4m3) (harg2 : arg2.IsWhole) (arg3 : Memref sig .tc .vmem S1x8x512 .f32) (harg3 : arg3.IsWhole) (arg4 : Memref sig .tc .vmem S1x16x8x128 .fp8e4m3) (harg4 : arg4.IsWhole) (arg5 : Memref sig .tc .vmem S1x8x128 .f32) (harg5 : arg5.IsWhole) (arg6 : Memref sig .tc .vmem S1x16x8x128 .fp8e4m3) (harg6 : arg6.IsWhole) (arg7 : Memref sig .tc .vmem S1x8x16 .f32) (harg7 : arg7.IsWhole) (arg8 : Memref sig .tc .vmem S32x128 .f32) (harg8 : arg8.IsWhole) (arg9 : Memref sig .tc .vmem S4096x7168 .fp8e4m3) (harg9 : arg9.IsWhole) (arg10 : Memref sig .tc .vmem S1x7168 .f32) (harg10 : arg10.IsWhole) (arg11 : Memref sig .tc .vmem S1x7168 .f32) (harg11 : arg11.IsWhole) (arg12 : Memref sig .tc .vmem S7168x128 .fp8e4m3) (harg12 : arg12.IsWhole) (arg13 : Memref sig .tc .vmem S1x128 .f32) (harg13 : arg13.IsWhole) (arg14 : Memref sig .tc .vmem S1x128 .f32) (harg14 : arg14.IsWhole) (arg15 : Memref sig .tc .vmem S1x32x8x128 .fp8e4m3) (harg15 : arg15.IsWhole) (arg16 : Memref sig .tc .vmem S1x8x128 .f32) (harg16 : arg16.IsWhole) (arg17 : Memref sig .tc .vmem S1x32x8x7168 .fp8e4m3) (harg17 : arg17.IsWhole) (arg18 : Memref sig .tc .vmem S1x8x128 .f32) (harg18 : arg18.IsWhole) (arg19 : Memref sig .tc .vmem S256x4096 .bf16) (harg19 : arg19.IsWhole) (arg20 : Memref sig .tc .vmem S256x7168 .f32) (harg20 : arg20.IsWhole) (arg21 : Memref sig .tc .vmem S256x128 .f32) (harg21 : arg21.IsWhole) (x0 : Vec Ideal S1x512x8x128 .fp8e4m3) (x1 : Vec Ideal S1x8x512 .f32) (x2 : Vec Ideal S1x16x8x128 .fp8e4m3) (x3 : Vec Ideal S1x8x128 .f32) (x4 : Vec Ideal S1x16x8x128 .fp8e4m3) (x5 : Vec Ideal S1x8x16 .f32) (x6 : Vec Ideal S32x128 .f32) (x7 : Vec Ideal S4096x7168 .fp8e4m3) (x8 : Vec Ideal S1x7168 .f32) (x9 : Vec Ideal S1x7168 .f32) :
    arg19.view.writes (Elt Ideal) arg19.view.junk (bodyRun.sl.HS0_512 (F := Ideal) i arg2 harg2 arg3 harg3 arg4 harg4 arg5 harg5 arg6 harg6 arg7 harg7 arg8 harg8 x0 x1 x2 x3 x4 x5 x6)
      = harg19.unread (XB i x0 x1 x2 x3 x4 x5 x6) := by
  refine harg19.eq_unread ?_
  funext y
  refine View.read_writes_apply_of_pieces _ _ (XB i x0 x1 x2 x3 x4 x5 x6) _ ?_ y ?_
  · have h := hs0_pieces i arg2 harg2 arg3 harg3 arg4 harg4 arg5 harg5 arg6 harg6 arg7 harg7 arg8 harg8 x0 x1 x2 x3 x4 x5 x6
    simp only [harg2.read_unread, harg3.read_unread, harg4.read_unread, harg5.read_unread, harg6.read_unread, harg7.read_unread, harg8.read_unread] at h
    exact h
  · exact View.cover_of_tiledL _ ![16, 128] (by sl_kernel_rfl) y

/-- The second scratch buffer after the loop: the hidden values. -/
theorem os1_read (c : Dev nD) (i : grid0.Coords) (arg2 : Memref sig .tc .vmem S1x512x8x128 .fp8e4m3) (harg2 : arg2.IsWhole) (arg3 : Memref sig .tc .vmem S1x8x512 .f32) (harg3 : arg3.IsWhole) (arg4 : Memref sig .tc .vmem S1x16x8x128 .fp8e4m3) (harg4 : arg4.IsWhole) (arg5 : Memref sig .tc .vmem S1x8x128 .f32) (harg5 : arg5.IsWhole) (arg6 : Memref sig .tc .vmem S1x16x8x128 .fp8e4m3) (harg6 : arg6.IsWhole) (arg7 : Memref sig .tc .vmem S1x8x16 .f32) (harg7 : arg7.IsWhole) (arg8 : Memref sig .tc .vmem S32x128 .f32) (harg8 : arg8.IsWhole) (arg9 : Memref sig .tc .vmem S4096x7168 .fp8e4m3) (harg9 : arg9.IsWhole) (arg10 : Memref sig .tc .vmem S1x7168 .f32) (harg10 : arg10.IsWhole) (arg11 : Memref sig .tc .vmem S1x7168 .f32) (harg11 : arg11.IsWhole) (arg12 : Memref sig .tc .vmem S7168x128 .fp8e4m3) (harg12 : arg12.IsWhole) (arg13 : Memref sig .tc .vmem S1x128 .f32) (harg13 : arg13.IsWhole) (arg14 : Memref sig .tc .vmem S1x128 .f32) (harg14 : arg14.IsWhole) (arg15 : Memref sig .tc .vmem S1x32x8x128 .fp8e4m3) (harg15 : arg15.IsWhole) (arg16 : Memref sig .tc .vmem S1x8x128 .f32) (harg16 : arg16.IsWhole) (arg17 : Memref sig .tc .vmem S1x32x8x7168 .fp8e4m3) (harg17 : arg17.IsWhole) (arg18 : Memref sig .tc .vmem S1x8x128 .f32) (harg18 : arg18.IsWhole) (arg19 : Memref sig .tc .vmem S256x4096 .bf16) (harg19 : arg19.IsWhole) (arg20 : Memref sig .tc .vmem S256x7168 .f32) (harg20 : arg20.IsWhole) (arg21 : Memref sig .tc .vmem S256x128 .f32) (harg21 : arg21.IsWhole) (v7952 : Vec Ideal S1x128 .f32) (v8439 : FVec Ideal S8x128 .f32) (v8446 : FVec Ideal S8x128 .f32) (v8452 : FVec Ideal S16x128 .bf16)
    (XBv : Vec Ideal S256x4096 .bf16) (x7 : Vec Ideal S4096x7168 .fp8e4m3) (x8 : Vec Ideal S1x7168 .f32) (x9 : Vec Ideal S1x7168 .f32) (fs1 : BufTy.Contents (Elt Ideal) arg20.view.ty) :
    arg20.view.read (Elt Ideal) (arg20.view.writes (Elt Ideal) fs1 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v7952 v8439 v8446 v8452 (harg9.unread x7) (harg10.unread x8) (harg11.unread x9) (harg19.unread XBv) fs1 (arg21.view.writes (Elt Ideal) arg21.view.junk (bodyRun.sl.HS2_1 (F := Ideal))) (Scf.trips k0_t1_loop.lb k0_t1_loop.ub k0_t1_loop.st)).1)
      = HF XBv x7 x8 x9 := by
  have h := pb_spec (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v7952 v8439 v8446 v8452 (harg9.unread x7) (harg10.unread x8) (harg11.unread x9) (harg19.unread XBv) fs1 (arg21.view.writes (Elt Ideal) arg21.view.junk (bodyRun.sl.HS2_1 (F := Ideal))) XBv x7 x8 x9 rfl rfl rfl rfl (junk_hm arg21) k0_t1_loop.trips le_rfl
  funext y
  have hy : (y 1).val < 7168 := (y 1).isLt
  exact View.read_writes_apply_of_pieces _ _ (HF XBv x7 x8 x9) _ h.1 y (h.2.1 y (by rw [trips_eq]; omega))

/-- The third after it: the running maxima. -/
theorem os2_read (c : Dev nD) (i : grid0.Coords) (arg2 : Memref sig .tc .vmem S1x512x8x128 .fp8e4m3) (harg2 : arg2.IsWhole) (arg3 : Memref sig .tc .vmem S1x8x512 .f32) (harg3 : arg3.IsWhole) (arg4 : Memref sig .tc .vmem S1x16x8x128 .fp8e4m3) (harg4 : arg4.IsWhole) (arg5 : Memref sig .tc .vmem S1x8x128 .f32) (harg5 : arg5.IsWhole) (arg6 : Memref sig .tc .vmem S1x16x8x128 .fp8e4m3) (harg6 : arg6.IsWhole) (arg7 : Memref sig .tc .vmem S1x8x16 .f32) (harg7 : arg7.IsWhole) (arg8 : Memref sig .tc .vmem S32x128 .f32) (harg8 : arg8.IsWhole) (arg9 : Memref sig .tc .vmem S4096x7168 .fp8e4m3) (harg9 : arg9.IsWhole) (arg10 : Memref sig .tc .vmem S1x7168 .f32) (harg10 : arg10.IsWhole) (arg11 : Memref sig .tc .vmem S1x7168 .f32) (harg11 : arg11.IsWhole) (arg12 : Memref sig .tc .vmem S7168x128 .fp8e4m3) (harg12 : arg12.IsWhole) (arg13 : Memref sig .tc .vmem S1x128 .f32) (harg13 : arg13.IsWhole) (arg14 : Memref sig .tc .vmem S1x128 .f32) (harg14 : arg14.IsWhole) (arg15 : Memref sig .tc .vmem S1x32x8x128 .fp8e4m3) (harg15 : arg15.IsWhole) (arg16 : Memref sig .tc .vmem S1x8x128 .f32) (harg16 : arg16.IsWhole) (arg17 : Memref sig .tc .vmem S1x32x8x7168 .fp8e4m3) (harg17 : arg17.IsWhole) (arg18 : Memref sig .tc .vmem S1x8x128 .f32) (harg18 : arg18.IsWhole) (arg19 : Memref sig .tc .vmem S256x4096 .bf16) (harg19 : arg19.IsWhole) (arg20 : Memref sig .tc .vmem S256x7168 .f32) (harg20 : arg20.IsWhole) (arg21 : Memref sig .tc .vmem S256x128 .f32) (harg21 : arg21.IsWhole) (v7952 : Vec Ideal S1x128 .f32) (v8439 : FVec Ideal S8x128 .f32) (v8446 : FVec Ideal S8x128 .f32) (v8452 : FVec Ideal S16x128 .bf16)
    (XBv : Vec Ideal S256x4096 .bf16) (x7 : Vec Ideal S4096x7168 .fp8e4m3) (x8 : Vec Ideal S1x7168 .f32) (x9 : Vec Ideal S1x7168 .f32) (fs1 : BufTy.Contents (Elt Ideal) arg20.view.ty) :
    arg21.view.readCov ((pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v7952 v8439 v8446 v8452 (harg9.unread x7) (harg10.unread x8) (harg11.unread x9) (harg19.unread XBv) fs1 (arg21.view.writes (Elt Ideal) arg21.view.junk (bodyRun.sl.HS2_1 (F := Ideal))) (Scf.trips k0_t1_loop.lb k0_t1_loop.ub k0_t1_loop.st)).2 ++ bodyRun.sl.HS2_1 (F := Ideal)) (Rect.unit ![0, 0] S256x128.size inb_S256x128_S256x128_0_0).toLoadRect
      = HM XBv x7 x8 x9 14 := by
  have h := pb_spec (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v7952 v8439 v8446 v8452 (harg9.unread x7) (harg10.unread x8) (harg11.unread x9) (harg19.unread XBv) fs1 (arg21.view.writes (Elt Ideal) arg21.view.junk (bodyRun.sl.HS2_1 (F := Ideal))) XBv x7 x8 x9 rfl rfl rfl rfl (junk_hm arg21) k0_t1_loop.trips le_rfl
  have h2 := h.2.2
  rw [← View.writes_append, trips_eq] at h2
  refine Eq.trans ?_ h2
  exact ld_whole_hm (F := Ideal) _

theorem inbHc {o : ℕ} (h : o ≤ 6656) : ∀ a : Fin S1x32x8x7168.rank, ![0, 0, 0, o] a + S1x32x8x512.size a ≤ S1x32x8x7168.size a := by
  intro a
  match a with
  | ⟨0, _⟩ => show 0 + 1 ≤ 1; omega
  | ⟨1, _⟩ => show 0 + 32 ≤ 32; omega
  | ⟨2, _⟩ => show 0 + 8 ≤ 8; omega
  | ⟨3, _⟩ => show o + 512 ≤ 7168; omega

/-- A piece of codes is the code block's there. -/
theorem hc_piece (inv : FVec Ideal S256x1 .f32) (H : Vec Ideal S256x7168 .f32) (o : ℕ) (v : FVec Ideal S1x32x8x512 .fp8e4m3) (ho : o / 512 < 14)
    (h : decide (o % 512 = 0) = true) (hb : o ≤ 6656) (hv : v = k0_pay1243 inv (Ht H (o / 512) ho)) :
    ∀ x, v x = HCv inv H ((Rect.unit (s := S1x32x8x7168) ![0, 0, 0, o] S1x32x8x512.size (inbHc hb)).emb x) := by
  subst hv
  simp only [decide_eq_true_eq] at h
  intro x
  have q0 : (x 0).val < 1 := (x 0).isLt
  have q1 : (x 1).val < 32 := (x 1).isLt
  have q2 : (x 2).val < 8 := (x 2).isLt
  have q3 : (x 3).val < 512 := (x 3).isLt
  have c1 : (((Rect.unit (s := S1x32x8x7168) ![0, 0, 0, o] S1x32x8x512.size (inbHc hb)).emb x) 1).val = (x 1).val := by show 0 + 1 * (x 1).val = _; omega
  have c2 : (((Rect.unit (s := S1x32x8x7168) ![0, 0, 0, o] S1x32x8x512.size (inbHc hb)).emb x) 2).val = (x 2).val := by show 0 + 1 * (x 2).val = _; omega
  have c3 : (((Rect.unit (s := S1x32x8x7168) ![0, 0, 0, o] S1x32x8x512.size (inbHc hb)).emb x) 3).val = o + (x 3).val := by show o + 1 * (x 3).val = _; omega
  have ex : x = ix4 (⟨(x 0).val, q0⟩ : Fin 1) (⟨(x 1).val, q1⟩ : Fin 32) (⟨(x 2).val, q2⟩ : Fin 8) (⟨(x 3).val, q3⟩ : Fin 512) := by
    funext a; match a with
    | ⟨0, _⟩ => rfl
    | ⟨1, _⟩ => rfl
    | ⟨2, _⟩ => rfl
    | ⟨3, _⟩ => rfl
  have key : ∀ (T : Vec Ideal S256x512 .f32) (a : Fin 1) (b : Fin 32) (c : Fin 8) (d : Fin 512),
      k0_pay1243 inv T (ix4 a b c d) = (min (FloatOps.ofBits (F := Ideal) .f32 0x43E00000#32) (max (FloatOps.ofBits (F := Ideal) .f32 0xC3E00000#32)
        ((T (ix2 (⟨b.val * 8 + c.val, by omega⟩ : Fin 256) d) : EReal) * inv (ix2 (⟨b.val * 8 + c.val, by omega⟩ : Fin 256) (0 : Fin 1)))) : EReal) := by
    intro T a b c d
    pointwise [k0_pay1243, k0_pay1242]
  refine ((congrArg (k0_pay1243 inv _) ex).trans (key _ _ _ _ _)).trans ?_
  have e1 : (⟨(x 1).val * 8 + (x 2).val, by omega⟩ : Fin 256) = ⟨(((Rect.unit (s := S1x32x8x7168) ![0, 0, 0, o] S1x32x8x512.size (inbHc hb)).emb x) 1).val * 8 + (((Rect.unit (s := S1x32x8x7168) ![0, 0, 0, o] S1x32x8x512.size (inbHc hb)).emb x) 2).val, by omega⟩ := by
    apply Fin.ext; show _ = _ + _; rw [c1, c2]
  show _ = hq inv H _ _
  rw [← e1]
  unfold hq
  congr 3
  unfold Ht View.ld
  congr 1
  funext a; match a with
  | ⟨0, _⟩ => apply Fin.ext; show 0 + 1 * ((x 1).val * 8 + (x 2).val) = (x 1).val * 8 + (x 2).val; omega
  | ⟨1, _⟩ => apply Fin.ext; show 512 * (o / 512) + 1 * (x 3).val = (((Rect.unit (s := S1x32x8x7168) ![0, 0, 0, o] S1x32x8x512.size (inbHc hb)).emb x) 3).val; omega

section
variable (c : Dev nD) (i : grid0.Coords) (arg2 : Memref sig .tc .vmem S1x512x8x128 .fp8e4m3) (harg2 : arg2.IsWhole) (arg3 : Memref sig .tc .vmem S1x8x512 .f32) (harg3 : arg3.IsWhole) (arg4 : Memref sig .tc .vmem S1x16x8x128 .fp8e4m3) (harg4 : arg4.IsWhole) (arg5 : Memref sig .tc .vmem S1x8x128 .f32) (harg5 : arg5.IsWhole) (arg6 : Memref sig .tc .vmem S1x16x8x128 .fp8e4m3) (harg6 : arg6.IsWhole) (arg7 : Memref sig .tc .vmem S1x8x16 .f32) (harg7 : arg7.IsWhole) (arg8 : Memref sig .tc .vmem S32x128 .f32) (harg8 : arg8.IsWhole) (arg9 : Memref sig .tc .vmem S4096x7168 .fp8e4m3) (harg9 : arg9.IsWhole) (arg10 : Memref sig .tc .vmem S1x7168 .f32) (harg10 : arg10.IsWhole) (arg11 : Memref sig .tc .vmem S1x7168 .f32) (harg11 : arg11.IsWhole) (arg12 : Memref sig .tc .vmem S7168x128 .fp8e4m3) (harg12 : arg12.IsWhole) (arg13 : Memref sig .tc .vmem S1x128 .f32) (harg13 : arg13.IsWhole) (arg14 : Memref sig .tc .vmem S1x128 .f32) (harg14 : arg14.IsWhole) (arg15 : Memref sig .tc .vmem S1x32x8x128 .fp8e4m3) (harg15 : arg15.IsWhole) (arg16 : Memref sig .tc .vmem S1x8x128 .f32) (harg16 : arg16.IsWhole) (arg17 : Memref sig .tc .vmem S1x32x8x7168 .fp8e4m3) (harg17 : arg17.IsWhole) (arg18 : Memref sig .tc .vmem S1x8x128 .f32) (harg18 : arg18.IsWhole) (arg19 : Memref sig .tc .vmem S256x4096 .bf16) (harg19 : arg19.IsWhole) (arg20 : Memref sig .tc .vmem S256x7168 .f32) (harg20 : arg20.IsWhole) (arg21 : Memref sig .tc .vmem S256x128 .f32) (harg21 : arg21.IsWhole) (x0 : Vec Ideal S1x512x8x128 .fp8e4m3) (x1 : Vec Ideal S1x8x512 .f32) (x2 : Vec Ideal S1x16x8x128 .fp8e4m3) (x3 : Vec Ideal S1x8x128 .f32) (x4 : Vec Ideal S1x16x8x128 .fp8e4m3) (x5 : Vec Ideal S1x8x16 .f32) (x6 : Vec Ideal S32x128 .f32) (x7 : Vec Ideal S4096x7168 .fp8e4m3) (x8 : Vec Ideal S1x7168 .f32) (x9 : Vec Ideal S1x7168 .f32) (fs1 : BufTy.Contents (Elt Ideal) arg20.view.ty)

theorem v8470_eq : bodyRun.sl.v8470 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 fs1 = HM (XB i x0 x1 x2 x3 x4 x5 x6) x7 x8 x9 14 := by
  unfold bodyRun.sl.v8470
  rw [xb_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9]
  exact os2_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ (XB i x0 x1 x2 x3 x4 x5 x6) x7 x8 x9 fs1

theorem v8567_eq : bodyRun.sl.v8567 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 fs1 = Ht (HF (XB i x0 x1 x2 x3 x4 x5 x6) x7 x8 x9) 0 (by decide) := by
  unfold bodyRun.sl.v8567
  rw [xb_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9]
  exact congrArg (fun f => View.ld f (Rect.unit (s := S256x7168) ![0, 0] S256x512.size (by intro a; fin_cases a <;> simp))) (os1_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ (XB i x0 x1 x2 x3 x4 x5 x6) x7 x8 x9 fs1)

theorem v8584_eq : bodyRun.sl.v8584 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 fs1 = Ht (HF (XB i x0 x1 x2 x3 x4 x5 x6) x7 x8 x9) 1 (by decide) := by
  unfold bodyRun.sl.v8584
  rw [xb_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9]
  exact congrArg (fun f => View.ld f (Rect.unit (s := S256x7168) ![0, 512] S256x512.size (by intro a; fin_cases a <;> simp))) (os1_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ (XB i x0 x1 x2 x3 x4 x5 x6) x7 x8 x9 fs1)

theorem v8601_eq : bodyRun.sl.v8601 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 fs1 = Ht (HF (XB i x0 x1 x2 x3 x4 x5 x6) x7 x8 x9) 2 (by decide) := by
  unfold bodyRun.sl.v8601
  rw [xb_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9]
  exact congrArg (fun f => View.ld f (Rect.unit (s := S256x7168) ![0, 1024] S256x512.size (by intro a; fin_cases a <;> simp))) (os1_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ (XB i x0 x1 x2 x3 x4 x5 x6) x7 x8 x9 fs1)

theorem v8618_eq : bodyRun.sl.v8618 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 fs1 = Ht (HF (XB i x0 x1 x2 x3 x4 x5 x6) x7 x8 x9) 3 (by decide) := by
  unfold bodyRun.sl.v8618
  rw [xb_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9]
  exact congrArg (fun f => View.ld f (Rect.unit (s := S256x7168) ![0, 1536] S256x512.size (by intro a; fin_cases a <;> simp))) (os1_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ (XB i x0 x1 x2 x3 x4 x5 x6) x7 x8 x9 fs1)

theorem v8635_eq : bodyRun.sl.v8635 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 fs1 = Ht (HF (XB i x0 x1 x2 x3 x4 x5 x6) x7 x8 x9) 4 (by decide) := by
  unfold bodyRun.sl.v8635
  rw [xb_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9]
  exact congrArg (fun f => View.ld f (Rect.unit (s := S256x7168) ![0, 2048] S256x512.size (by intro a; fin_cases a <;> simp))) (os1_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ (XB i x0 x1 x2 x3 x4 x5 x6) x7 x8 x9 fs1)

theorem v8652_eq : bodyRun.sl.v8652 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 fs1 = Ht (HF (XB i x0 x1 x2 x3 x4 x5 x6) x7 x8 x9) 5 (by decide) := by
  unfold bodyRun.sl.v8652
  rw [xb_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9]
  exact congrArg (fun f => View.ld f (Rect.unit (s := S256x7168) ![0, 2560] S256x512.size (by intro a; fin_cases a <;> simp))) (os1_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ (XB i x0 x1 x2 x3 x4 x5 x6) x7 x8 x9 fs1)

theorem v8669_eq : bodyRun.sl.v8669 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 fs1 = Ht (HF (XB i x0 x1 x2 x3 x4 x5 x6) x7 x8 x9) 6 (by decide) := by
  unfold bodyRun.sl.v8669
  rw [xb_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9]
  exact congrArg (fun f => View.ld f (Rect.unit (s := S256x7168) ![0, 3072] S256x512.size (by intro a; fin_cases a <;> simp))) (os1_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ (XB i x0 x1 x2 x3 x4 x5 x6) x7 x8 x9 fs1)

theorem v8686_eq : bodyRun.sl.v8686 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 fs1 = Ht (HF (XB i x0 x1 x2 x3 x4 x5 x6) x7 x8 x9) 7 (by decide) := by
  unfold bodyRun.sl.v8686
  rw [xb_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9]
  exact congrArg (fun f => View.ld f (Rect.unit (s := S256x7168) ![0, 3584] S256x512.size (by intro a; fin_cases a <;> simp))) (os1_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ (XB i x0 x1 x2 x3 x4 x5 x6) x7 x8 x9 fs1)

theorem v8703_eq : bodyRun.sl.v8703 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 fs1 = Ht (HF (XB i x0 x1 x2 x3 x4 x5 x6) x7 x8 x9) 8 (by decide) := by
  unfold bodyRun.sl.v8703
  rw [xb_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9]
  exact congrArg (fun f => View.ld f (Rect.unit (s := S256x7168) ![0, 4096] S256x512.size (by intro a; fin_cases a <;> simp))) (os1_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ (XB i x0 x1 x2 x3 x4 x5 x6) x7 x8 x9 fs1)

theorem v8720_eq : bodyRun.sl.v8720 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 fs1 = Ht (HF (XB i x0 x1 x2 x3 x4 x5 x6) x7 x8 x9) 9 (by decide) := by
  unfold bodyRun.sl.v8720
  rw [xb_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9]
  exact congrArg (fun f => View.ld f (Rect.unit (s := S256x7168) ![0, 4608] S256x512.size (by intro a; fin_cases a <;> simp))) (os1_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ (XB i x0 x1 x2 x3 x4 x5 x6) x7 x8 x9 fs1)

theorem v8737_eq : bodyRun.sl.v8737 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 fs1 = Ht (HF (XB i x0 x1 x2 x3 x4 x5 x6) x7 x8 x9) 10 (by decide) := by
  unfold bodyRun.sl.v8737
  rw [xb_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9]
  exact congrArg (fun f => View.ld f (Rect.unit (s := S256x7168) ![0, 5120] S256x512.size (by intro a; fin_cases a <;> simp))) (os1_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ (XB i x0 x1 x2 x3 x4 x5 x6) x7 x8 x9 fs1)

theorem v8754_eq : bodyRun.sl.v8754 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 fs1 = Ht (HF (XB i x0 x1 x2 x3 x4 x5 x6) x7 x8 x9) 11 (by decide) := by
  unfold bodyRun.sl.v8754
  rw [xb_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9]
  exact congrArg (fun f => View.ld f (Rect.unit (s := S256x7168) ![0, 5632] S256x512.size (by intro a; fin_cases a <;> simp))) (os1_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ (XB i x0 x1 x2 x3 x4 x5 x6) x7 x8 x9 fs1)

theorem v8771_eq : bodyRun.sl.v8771 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 fs1 = Ht (HF (XB i x0 x1 x2 x3 x4 x5 x6) x7 x8 x9) 12 (by decide) := by
  unfold bodyRun.sl.v8771
  rw [xb_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9]
  exact congrArg (fun f => View.ld f (Rect.unit (s := S256x7168) ![0, 6144] S256x512.size (by intro a; fin_cases a <;> simp))) (os1_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ (XB i x0 x1 x2 x3 x4 x5 x6) x7 x8 x9 fs1)

theorem v8788_eq : bodyRun.sl.v8788 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 fs1 = Ht (HF (XB i x0 x1 x2 x3 x4 x5 x6) x7 x8 x9) 13 (by decide) := by
  unfold bodyRun.sl.v8788
  rw [xb_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9]
  exact congrArg (fun f => View.ld f (Rect.unit (s := S256x7168) ![0, 6656] S256x512.size (by intro a; fin_cases a <;> simp))) (os1_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ (XB i x0 x1 x2 x3 x4 x5 x6) x7 x8 x9 fs1)
end

set_option maxHeartbeats 20000000 in
/-- The block of hidden codes. -/
theorem o15_read (c : Dev nD) (i : grid0.Coords) (arg2 : Memref sig .tc .vmem S1x512x8x128 .fp8e4m3) (harg2 : arg2.IsWhole) (arg3 : Memref sig .tc .vmem S1x8x512 .f32) (harg3 : arg3.IsWhole) (arg4 : Memref sig .tc .vmem S1x16x8x128 .fp8e4m3) (harg4 : arg4.IsWhole) (arg5 : Memref sig .tc .vmem S1x8x128 .f32) (harg5 : arg5.IsWhole) (arg6 : Memref sig .tc .vmem S1x16x8x128 .fp8e4m3) (harg6 : arg6.IsWhole) (arg7 : Memref sig .tc .vmem S1x8x16 .f32) (harg7 : arg7.IsWhole) (arg8 : Memref sig .tc .vmem S32x128 .f32) (harg8 : arg8.IsWhole) (arg9 : Memref sig .tc .vmem S4096x7168 .fp8e4m3) (harg9 : arg9.IsWhole) (arg10 : Memref sig .tc .vmem S1x7168 .f32) (harg10 : arg10.IsWhole) (arg11 : Memref sig .tc .vmem S1x7168 .f32) (harg11 : arg11.IsWhole) (arg12 : Memref sig .tc .vmem S7168x128 .fp8e4m3) (harg12 : arg12.IsWhole) (arg13 : Memref sig .tc .vmem S1x128 .f32) (harg13 : arg13.IsWhole) (arg14 : Memref sig .tc .vmem S1x128 .f32) (harg14 : arg14.IsWhole) (arg15 : Memref sig .tc .vmem S1x32x8x128 .fp8e4m3) (harg15 : arg15.IsWhole) (arg16 : Memref sig .tc .vmem S1x8x128 .f32) (harg16 : arg16.IsWhole) (arg17 : Memref sig .tc .vmem S1x32x8x7168 .fp8e4m3) (harg17 : arg17.IsWhole) (arg18 : Memref sig .tc .vmem S1x8x128 .f32) (harg18 : arg18.IsWhole) (arg19 : Memref sig .tc .vmem S256x4096 .bf16) (harg19 : arg19.IsWhole) (arg20 : Memref sig .tc .vmem S256x7168 .f32) (harg20 : arg20.IsWhole) (arg21 : Memref sig .tc .vmem S256x128 .f32) (harg21 : arg21.IsWhole) (x0 : Vec Ideal S1x512x8x128 .fp8e4m3) (x1 : Vec Ideal S1x8x512 .f32) (x2 : Vec Ideal S1x16x8x128 .fp8e4m3) (x3 : Vec Ideal S1x8x128 .f32) (x4 : Vec Ideal S1x16x8x128 .fp8e4m3) (x5 : Vec Ideal S1x8x16 .f32) (x6 : Vec Ideal S32x128 .f32) (x7 : Vec Ideal S4096x7168 .fp8e4m3) (x8 : Vec Ideal S1x7168 .f32) (x9 : Vec Ideal S1x7168 .f32) (x10 : Vec Ideal S7168x128 .fp8e4m3) (x11 : Vec Ideal S1x128 .f32) (x12 : Vec Ideal S1x128 .f32) (f13 : BufTy.Contents (Elt Ideal) arg15.view.ty) (f14 : BufTy.Contents (Elt Ideal) arg16.view.ty) (f15 : BufTy.Contents (Elt Ideal) arg17.view.ty) (f16 : BufTy.Contents (Elt Ideal) arg18.view.ty) (fs0 : BufTy.Contents (Elt Ideal) arg19.view.ty) (fs1 : BufTy.Contents (Elt Ideal) arg20.view.ty) (fs2 : BufTy.Contents (Elt Ideal) arg21.view.ty) :
    arg17.view.read (Elt Ideal) (bodyRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 f13 f14 f15 f16 fs0 fs1 fs2).2.2.1 = HCv (INVv (HM (XB i x0 x1 x2 x3 x4 x5 x6) x7 x8 x9 14)) (HF (XB i x0 x1 x2 x3 x4 x5 x6) x7 x8 x9) := by
  unfold bodyRun
  dsimp only
  simp only [bodyRun.sl.r_616, bodyRun.sl.r_617, bodyRun.sl.r_618, bodyRun.sl.r_619, bodyRun.sl.r_620, bodyRun.sl.r_621, bodyRun.sl.r_622, bodyRun.sl.r_623, bodyRun.sl.r_624, bodyRun.sl.r_625, bodyRun.sl.r_626, bodyRun.sl.r_627, bodyRun.sl.r_628, bodyRun.sl.r_629, bodyRun.sl.r_630, bodyRun.sl.r_631]
  simp only [v8470_eq, v8567_eq, v8584_eq, v8601_eq, v8618_eq, v8635_eq, v8652_eq, v8669_eq, v8686_eq, v8703_eq, v8720_eq, v8737_eq, v8754_eq, v8771_eq, v8788_eq, bodyRun.sl.r_605, bodyRun.sl.r_606, bodyRun.sl.r_607, bodyRun.sl.r_608, bodyRun.sl.r_609, bodyRun.sl.r_610, bodyRun.sl.r_611, bodyRun.sl.r_612, bodyRun.sl.r_613, View.readAt_eq_ld, harg12.read_unread, harg13.read_unread, harg14.read_unread]
  funext y
  refine View.read_writes_apply_of_pieces (Val := Elt Ideal) _ _ (HCv (INVv (HM (XB i x0 x1 x2 x3 x4 x5 x6) x7 x8 x9 14)) (HF (XB i x0 x1 x2 x3 x4 x5 x6) x7 x8 x9)) _ ?_ y ?_
  · iterate 14
      refine List.forall_mem_cons.mpr ⟨?_, ?_⟩
      · refine hc_piece _ _ _ _ (by decide) (by decide) (by decide) ?_; rfl
    exact fun p hp => absurd hp List.not_mem_nil
  · exact View.cover_of_tiledL _ ![1, 32, 8, 512] (by sl_kernel_rfl) y

theorem ld_whole_row (X : Vec Ideal S1x128 .f32) : View.ld X (Rect.unit (s := S1x128) ![0, 0] S1x128.size inb_S1x128_S1x128_0_0) = X :=
  View.ld_unit_zero (by funext a; fin_cases a <;> rfl) _ X

theorem r632_eq (c : Dev nD) (i : grid0.Coords) (arg2 : Memref sig .tc .vmem S1x512x8x128 .fp8e4m3) (harg2 : arg2.IsWhole) (arg3 : Memref sig .tc .vmem S1x8x512 .f32) (harg3 : arg3.IsWhole) (arg4 : Memref sig .tc .vmem S1x16x8x128 .fp8e4m3) (harg4 : arg4.IsWhole) (arg5 : Memref sig .tc .vmem S1x8x128 .f32) (harg5 : arg5.IsWhole) (arg6 : Memref sig .tc .vmem S1x16x8x128 .fp8e4m3) (harg6 : arg6.IsWhole) (arg7 : Memref sig .tc .vmem S1x8x16 .f32) (harg7 : arg7.IsWhole) (arg8 : Memref sig .tc .vmem S32x128 .f32) (harg8 : arg8.IsWhole) (arg9 : Memref sig .tc .vmem S4096x7168 .fp8e4m3) (harg9 : arg9.IsWhole) (arg10 : Memref sig .tc .vmem S1x7168 .f32) (harg10 : arg10.IsWhole) (arg11 : Memref sig .tc .vmem S1x7168 .f32) (harg11 : arg11.IsWhole) (arg12 : Memref sig .tc .vmem S7168x128 .fp8e4m3) (harg12 : arg12.IsWhole) (arg13 : Memref sig .tc .vmem S1x128 .f32) (harg13 : arg13.IsWhole) (arg14 : Memref sig .tc .vmem S1x128 .f32) (harg14 : arg14.IsWhole) (arg15 : Memref sig .tc .vmem S1x32x8x128 .fp8e4m3) (harg15 : arg15.IsWhole) (arg16 : Memref sig .tc .vmem S1x8x128 .f32) (harg16 : arg16.IsWhole) (arg17 : Memref sig .tc .vmem S1x32x8x7168 .fp8e4m3) (harg17 : arg17.IsWhole) (arg18 : Memref sig .tc .vmem S1x8x128 .f32) (harg18 : arg18.IsWhole) (arg19 : Memref sig .tc .vmem S256x4096 .bf16) (harg19 : arg19.IsWhole) (arg20 : Memref sig .tc .vmem S256x7168 .f32) (harg20 : arg20.IsWhole) (arg21 : Memref sig .tc .vmem S256x128 .f32) (harg21 : arg21.IsWhole) (x0 : Vec Ideal S1x512x8x128 .fp8e4m3) (x1 : Vec Ideal S1x8x512 .f32) (x2 : Vec Ideal S1x16x8x128 .fp8e4m3) (x3 : Vec Ideal S1x8x128 .f32) (x4 : Vec Ideal S1x16x8x128 .fp8e4m3) (x5 : Vec Ideal S1x8x16 .f32) (x6 : Vec Ideal S32x128 .f32) (x7 : Vec Ideal S4096x7168 .fp8e4m3) (x8 : Vec Ideal S1x7168 .f32) (x9 : Vec Ideal S1x7168 .f32) (x10 : Vec Ideal S7168x128 .fp8e4m3) (x11 : Vec Ideal S1x128 .f32) (x12 : Vec Ideal S1x128 .f32) (fs1 : BufTy.Contents (Elt Ideal) arg20.view.ty) :
    bodyRun.sl.r_632 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs1 = (CKv (SCv (HM (XB i x0 x1 x2 x3 x4 x5 x6) x7 x8 x9 14)) (accV (INVv (HM (XB i x0 x1 x2 x3 x4 x5 x6) x7 x8 x9 14)) (HF (XB i x0 x1 x2 x3 x4 x5 x6) x7 x8 x9) x10 7) x11 x12) := by
  simp only [bodyRun.sl.r_614, bodyRun.sl.r_615, bodyRun.sl.r_616, bodyRun.sl.r_617, bodyRun.sl.r_618, bodyRun.sl.r_619, bodyRun.sl.r_620, bodyRun.sl.r_621, bodyRun.sl.r_622, bodyRun.sl.r_623, bodyRun.sl.r_624, bodyRun.sl.r_625, bodyRun.sl.r_626, bodyRun.sl.r_627, bodyRun.sl.r_628, bodyRun.sl.r_629, bodyRun.sl.r_630, bodyRun.sl.r_631, bodyRun.sl.r_632]
  simp only [v8470_eq, v8567_eq, v8584_eq, v8601_eq, v8618_eq, v8635_eq, v8652_eq, v8669_eq, v8686_eq, v8703_eq, v8720_eq, v8737_eq, v8754_eq, v8771_eq, v8788_eq, bodyRun.sl.r_605, bodyRun.sl.r_606, bodyRun.sl.r_607, bodyRun.sl.r_608, bodyRun.sl.r_609, bodyRun.sl.r_610, bodyRun.sl.r_611, bodyRun.sl.r_612, bodyRun.sl.r_613, View.readAt_eq_ld, harg12.read_unread, harg13.read_unread, harg14.read_unread]
  rw [ld_whole_row, ld_whole_row]
  rfl

/-- The block of second-layer codes. -/
theorem o13_read (c : Dev nD) (i : grid0.Coords) (arg2 : Memref sig .tc .vmem S1x512x8x128 .fp8e4m3) (harg2 : arg2.IsWhole) (arg3 : Memref sig .tc .vmem S1x8x512 .f32) (harg3 : arg3.IsWhole) (arg4 : Memref sig .tc .vmem S1x16x8x128 .fp8e4m3) (harg4 : arg4.IsWhole) (arg5 : Memref sig .tc .vmem S1x8x128 .f32) (harg5 : arg5.IsWhole) (arg6 : Memref sig .tc .vmem S1x16x8x128 .fp8e4m3) (harg6 : arg6.IsWhole) (arg7 : Memref sig .tc .vmem S1x8x16 .f32) (harg7 : arg7.IsWhole) (arg8 : Memref sig .tc .vmem S32x128 .f32) (harg8 : arg8.IsWhole) (arg9 : Memref sig .tc .vmem S4096x7168 .fp8e4m3) (harg9 : arg9.IsWhole) (arg10 : Memref sig .tc .vmem S1x7168 .f32) (harg10 : arg10.IsWhole) (arg11 : Memref sig .tc .vmem S1x7168 .f32) (harg11 : arg11.IsWhole) (arg12 : Memref sig .tc .vmem S7168x128 .fp8e4m3) (harg12 : arg12.IsWhole) (arg13 : Memref sig .tc .vmem S1x128 .f32) (harg13 : arg13.IsWhole) (arg14 : Memref sig .tc .vmem S1x128 .f32) (harg14 : arg14.IsWhole) (arg15 : Memref sig .tc .vmem S1x32x8x128 .fp8e4m3) (harg15 : arg15.IsWhole) (arg16 : Memref sig .tc .vmem S1x8x128 .f32) (harg16 : arg16.IsWhole) (arg17 : Memref sig .tc .vmem S1x32x8x7168 .fp8e4m3) (harg17 : arg17.IsWhole) (arg18 : Memref sig .tc .vmem S1x8x128 .f32) (harg18 : arg18.IsWhole) (arg19 : Memref sig .tc .vmem S256x4096 .bf16) (harg19 : arg19.IsWhole) (arg20 : Memref sig .tc .vmem S256x7168 .f32) (harg20 : arg20.IsWhole) (arg21 : Memref sig .tc .vmem S256x128 .f32) (harg21 : arg21.IsWhole) (x0 : Vec Ideal S1x512x8x128 .fp8e4m3) (x1 : Vec Ideal S1x8x512 .f32) (x2 : Vec Ideal S1x16x8x128 .fp8e4m3) (x3 : Vec Ideal S1x8x128 .f32) (x4 : Vec Ideal S1x16x8x128 .fp8e4m3) (x5 : Vec Ideal S1x8x16 .f32) (x6 : Vec Ideal S32x128 .f32) (x7 : Vec Ideal S4096x7168 .fp8e4m3) (x8 : Vec Ideal S1x7168 .f32) (x9 : Vec Ideal S1x7168 .f32) (x10 : Vec Ideal S7168x128 .fp8e4m3) (x11 : Vec Ideal S1x128 .f32) (x12 : Vec Ideal S1x128 .f32) (f13 : BufTy.Contents (Elt Ideal) arg15.view.ty) (f14 : BufTy.Contents (Elt Ideal) arg16.view.ty) (f15 : BufTy.Contents (Elt Ideal) arg17.view.ty) (f16 : BufTy.Contents (Elt Ideal) arg18.view.ty) (fs0 : BufTy.Contents (Elt Ideal) arg19.view.ty) (fs1 : BufTy.Contents (Elt Ideal) arg20.view.ty) (fs2 : BufTy.Contents (Elt Ideal) arg21.view.ty) : arg15.view.read (Elt Ideal) (bodyRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 f13 f14 f15 f16 fs0 fs1 fs2).1 = CCv (CKv (SCv (HM (XB i x0 x1 x2 x3 x4 x5 x6) x7 x8 x9 14)) (accV (INVv (HM (XB i x0 x1 x2 x3 x4 x5 x6) x7 x8 x9 14)) (HF (XB i x0 x1 x2 x3 x4 x5 x6) x7 x8 x9) x10 7) x11 x12) := by
  unfold bodyRun
  dsimp only
  simp only [bodyRun.sl.r_633, bodyRun.sl.r_634, bodyRun.sl.r_635, bodyRun.sl.r_636, r632_eq]
  funext y
  refine View.read_writes_apply_of_pieces (Val := Elt Ideal) _ _ (CCv (CKv (SCv (HM (XB i x0 x1 x2 x3 x4 x5 x6) x7 x8 x9 14)) (accV (INVv (HM (XB i x0 x1 x2 x3 x4 x5 x6) x7 x8 x9 14)) (HF (XB i x0 x1 x2 x3 x4 x5 x6) x7 x8 x9) x10 7) x11 x12)) _ ?_ y ?_
  · intro p hp x
    obtain rfl := List.mem_singleton.mp hp
    exact (congrFun (View.ld_unit_zero (by funext a; fin_cases a <;> rfl) inb_S1x32x8x128_S1x32x8x128_0_0_0_0 (CCv (CKv (SCv (HM (XB i x0 x1 x2 x3 x4 x5 x6) x7 x8 x9 14)) (accV (INVv (HM (XB i x0 x1 x2 x3 x4 x5 x6) x7 x8 x9 14)) (HF (XB i x0 x1 x2 x3 x4 x5 x6) x7 x8 x9) x10 7) x11 x12))) x).symm
  · exact View.cover_of_tiledL _ ![1, 32, 8, 128] (by sl_kernel_rfl) y

theorem ld_whole_sc (X : Vec Ideal S1x8x128 .f32) : View.ld X (Rect.unit (s := S1x8x128) ![0, 0, 0] S1x8x128.size inb_S1x8x128_S1x8x128_0_0_0) = X :=
  View.ld_unit_zero (by funext a; fin_cases a <;> rfl) _ X

/-- The block of second-layer scales. -/
theorem o14_read (c : Dev nD) (i : grid0.Coords) (arg2 : Memref sig .tc .vmem S1x512x8x128 .fp8e4m3) (harg2 : arg2.IsWhole) (arg3 : Memref sig .tc .vmem S1x8x512 .f32) (harg3 : arg3.IsWhole) (arg4 : Memref sig .tc .vmem S1x16x8x128 .fp8e4m3) (harg4 : arg4.IsWhole) (arg5 : Memref sig .tc .vmem S1x8x128 .f32) (harg5 : arg5.IsWhole) (arg6 : Memref sig .tc .vmem S1x16x8x128 .fp8e4m3) (harg6 : arg6.IsWhole) (arg7 : Memref sig .tc .vmem S1x8x16 .f32) (harg7 : arg7.IsWhole) (arg8 : Memref sig .tc .vmem S32x128 .f32) (harg8 : arg8.IsWhole) (arg9 : Memref sig .tc .vmem S4096x7168 .fp8e4m3) (harg9 : arg9.IsWhole) (arg10 : Memref sig .tc .vmem S1x7168 .f32) (harg10 : arg10.IsWhole) (arg11 : Memref sig .tc .vmem S1x7168 .f32) (harg11 : arg11.IsWhole) (arg12 : Memref sig .tc .vmem S7168x128 .fp8e4m3) (harg12 : arg12.IsWhole) (arg13 : Memref sig .tc .vmem S1x128 .f32) (harg13 : arg13.IsWhole) (arg14 : Memref sig .tc .vmem S1x128 .f32) (harg14 : arg14.IsWhole) (arg15 : Memref sig .tc .vmem S1x32x8x128 .fp8e4m3) (harg15 : arg15.IsWhole) (arg16 : Memref sig .tc .vmem S1x8x128 .f32) (harg16 : arg16.IsWhole) (arg17 : Memref sig .tc .vmem S1x32x8x7168 .fp8e4m3) (harg17 : arg17.IsWhole) (arg18 : Memref sig .tc .vmem S1x8x128 .f32) (harg18 : arg18.IsWhole) (arg19 : Memref sig .tc .vmem S256x4096 .bf16) (harg19 : arg19.IsWhole) (arg20 : Memref sig .tc .vmem S256x7168 .f32) (harg20 : arg20.IsWhole) (arg21 : Memref sig .tc .vmem S256x128 .f32) (harg21 : arg21.IsWhole) (x0 : Vec Ideal S1x512x8x128 .fp8e4m3) (x1 : Vec Ideal S1x8x512 .f32) (x2 : Vec Ideal S1x16x8x128 .fp8e4m3) (x3 : Vec Ideal S1x8x128 .f32) (x4 : Vec Ideal S1x16x8x128 .fp8e4m3) (x5 : Vec Ideal S1x8x16 .f32) (x6 : Vec Ideal S32x128 .f32) (x7 : Vec Ideal S4096x7168 .fp8e4m3) (x8 : Vec Ideal S1x7168 .f32) (x9 : Vec Ideal S1x7168 .f32) (x10 : Vec Ideal S7168x128 .fp8e4m3) (x11 : Vec Ideal S1x128 .f32) (x12 : Vec Ideal S1x128 .f32) (f13 : BufTy.Contents (Elt Ideal) arg15.view.ty) (f14 : BufTy.Contents (Elt Ideal) arg16.view.ty) (f15 : BufTy.Contents (Elt Ideal) arg17.view.ty) (f16 : BufTy.Contents (Elt Ideal) arg18.view.ty) (fs0 : BufTy.Contents (Elt Ideal) arg19.view.ty) (fs1 : BufTy.Contents (Elt Ideal) arg20.view.ty) (fs2 : BufTy.Contents (Elt Ideal) arg21.view.ty) : arg16.view.read (Elt Ideal) (bodyRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 f13 f14 f15 f16 fs0 fs1 fs2).2.1 = selV i (CSv (CKv (SCv (HM (XB i x0 x1 x2 x3 x4 x5 x6) x7 x8 x9 14)) (accV (INVv (HM (XB i x0 x1 x2 x3 x4 x5 x6) x7 x8 x9 14)) (HF (XB i x0 x1 x2 x3 x4 x5 x6) x7 x8 x9) x10 7) x11 x12)) (arg16.view.read (Elt Ideal) f14) := by
  unfold bodyRun
  dsimp only
  simp only [bodyRun.sl.r_633, bodyRun.sl.r_634, bodyRun.sl.r_635, bodyRun.sl.r_636, bodyRun.sl.r_637, bodyRun.sl.r_638, bodyRun.sl.r_639, bodyRun.sl.r_640, bodyRun.sl.r_641, bodyRun.sl.r_642, bodyRun.sl.r_643, bodyRun.sl.r_644, bodyRun.sl.r_645, bodyRun.sl.r_646, bodyRun.sl.r_647, bodyRun.sl.r_648, bodyRun.sl.r_649, bodyRun.sl.r_650, bodyRun.sl.r_651, r632_eq, View.readAt_eq_ld]
  funext y
  refine View.read_writes_apply_of_pieces (Val := Elt Ideal) _ _ (selV i (CSv (CKv (SCv (HM (XB i x0 x1 x2 x3 x4 x5 x6) x7 x8 x9 14)) (accV (INVv (HM (XB i x0 x1 x2 x3 x4 x5 x6) x7 x8 x9 14)) (HF (XB i x0 x1 x2 x3 x4 x5 x6) x7 x8 x9) x10 7) x11 x12)) (arg16.view.read (Elt Ideal) f14)) _ ?_ y ?_
  · intro p hp x
    obtain rfl := List.mem_singleton.mp hp
    refine Eq.trans ?_ (congrFun (ld_whole_sc (selV i (CSv (CKv (SCv (HM (XB i x0 x1 x2 x3 x4 x5 x6) x7 x8 x9 14)) (accV (INVv (HM (XB i x0 x1 x2 x3 x4 x5 x6) x7 x8 x9 14)) (HF (XB i x0 x1 x2 x3 x4 x5 x6) x7 x8 x9) x10 7) x11 x12)) (arg16.view.read (Elt Ideal) f14))) x).symm
    conv_rhs => rw [← ld_whole_sc (arg16.view.read (Elt Ideal) f14)]
    rfl
  · exact View.cover_of_tiledL _ ![1, 8, 128] (by sl_kernel_rfl) y

/-- The block of hidden scales. -/
theorem o16_read (c : Dev nD) (i : grid0.Coords) (arg2 : Memref sig .tc .vmem S1x512x8x128 .fp8e4m3) (harg2 : arg2.IsWhole) (arg3 : Memref sig .tc .vmem S1x8x512 .f32) (harg3 : arg3.IsWhole) (arg4 : Memref sig .tc .vmem S1x16x8x128 .fp8e4m3) (harg4 : arg4.IsWhole) (arg5 : Memref sig .tc .vmem S1x8x128 .f32) (harg5 : arg5.IsWhole) (arg6 : Memref sig .tc .vmem S1x16x8x128 .fp8e4m3) (harg6 : arg6.IsWhole) (arg7 : Memref sig .tc .vmem S1x8x16 .f32) (harg7 : arg7.IsWhole) (arg8 : Memref sig .tc .vmem S32x128 .f32) (harg8 : arg8.IsWhole) (arg9 : Memref sig .tc .vmem S4096x7168 .fp8e4m3) (harg9 : arg9.IsWhole) (arg10 : Memref sig .tc .vmem S1x7168 .f32) (harg10 : arg10.IsWhole) (arg11 : Memref sig .tc .vmem S1x7168 .f32) (harg11 : arg11.IsWhole) (arg12 : Memref sig .tc .vmem S7168x128 .fp8e4m3) (harg12 : arg12.IsWhole) (arg13 : Memref sig .tc .vmem S1x128 .f32) (harg13 : arg13.IsWhole) (arg14 : Memref sig .tc .vmem S1x128 .f32) (harg14 : arg14.IsWhole) (arg15 : Memref sig .tc .vmem S1x32x8x128 .fp8e4m3) (harg15 : arg15.IsWhole) (arg16 : Memref sig .tc .vmem S1x8x128 .f32) (harg16 : arg16.IsWhole) (arg17 : Memref sig .tc .vmem S1x32x8x7168 .fp8e4m3) (harg17 : arg17.IsWhole) (arg18 : Memref sig .tc .vmem S1x8x128 .f32) (harg18 : arg18.IsWhole) (arg19 : Memref sig .tc .vmem S256x4096 .bf16) (harg19 : arg19.IsWhole) (arg20 : Memref sig .tc .vmem S256x7168 .f32) (harg20 : arg20.IsWhole) (arg21 : Memref sig .tc .vmem S256x128 .f32) (harg21 : arg21.IsWhole) (x0 : Vec Ideal S1x512x8x128 .fp8e4m3) (x1 : Vec Ideal S1x8x512 .f32) (x2 : Vec Ideal S1x16x8x128 .fp8e4m3) (x3 : Vec Ideal S1x8x128 .f32) (x4 : Vec Ideal S1x16x8x128 .fp8e4m3) (x5 : Vec Ideal S1x8x16 .f32) (x6 : Vec Ideal S32x128 .f32) (x7 : Vec Ideal S4096x7168 .fp8e4m3) (x8 : Vec Ideal S1x7168 .f32) (x9 : Vec Ideal S1x7168 .f32) (x10 : Vec Ideal S7168x128 .fp8e4m3) (x11 : Vec Ideal S1x128 .f32) (x12 : Vec Ideal S1x128 .f32) (f13 : BufTy.Contents (Elt Ideal) arg15.view.ty) (f14 : BufTy.Contents (Elt Ideal) arg16.view.ty) (f15 : BufTy.Contents (Elt Ideal) arg17.view.ty) (f16 : BufTy.Contents (Elt Ideal) arg18.view.ty) (fs0 : BufTy.Contents (Elt Ideal) arg19.view.ty) (fs1 : BufTy.Contents (Elt Ideal) arg20.view.ty) (fs2 : BufTy.Contents (Elt Ideal) arg21.view.ty) : arg18.view.read (Elt Ideal) (bodyRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 f13 f14 f15 f16 fs0 fs1 fs2).2.2.2.1 = selV i (SCv (HM (XB i x0 x1 x2 x3 x4 x5 x6) x7 x8 x9 14)) (arg18.view.read (Elt Ideal) f16) := by
  unfold bodyRun
  dsimp only
  simp only [bodyRun.sl.r_633, bodyRun.sl.r_634, bodyRun.sl.r_635, bodyRun.sl.r_636, bodyRun.sl.r_637, bodyRun.sl.r_638, bodyRun.sl.r_639, bodyRun.sl.r_640, bodyRun.sl.r_641, bodyRun.sl.r_642, bodyRun.sl.r_643, bodyRun.sl.r_644, bodyRun.sl.r_645, bodyRun.sl.r_646, bodyRun.sl.r_647, bodyRun.sl.r_648, bodyRun.sl.r_649, bodyRun.sl.r_650, bodyRun.sl.r_651]
  simp only [v8470_eq, v8567_eq, v8584_eq, v8601_eq, v8618_eq, v8635_eq, v8652_eq, v8669_eq, v8686_eq, v8703_eq, v8720_eq, v8737_eq, v8754_eq, v8771_eq, v8788_eq, bodyRun.sl.r_605, bodyRun.sl.r_606, bodyRun.sl.r_607, bodyRun.sl.r_608, bodyRun.sl.r_609, bodyRun.sl.r_610, bodyRun.sl.r_611, bodyRun.sl.r_612, bodyRun.sl.r_613, View.readAt_eq_ld, harg12.read_unread, harg13.read_unread, harg14.read_unread]
  funext y
  refine View.read_writes_apply_of_pieces (Val := Elt Ideal) _ _ (selV i (SCv (HM (XB i x0 x1 x2 x3 x4 x5 x6) x7 x8 x9 14)) (arg18.view.read (Elt Ideal) f16)) _ ?_ y ?_
  · intro p hp x
    obtain rfl := List.mem_singleton.mp hp
    refine Eq.trans ?_ (congrFun (ld_whole_sc (selV i (SCv (HM (XB i x0 x1 x2 x3 x4 x5 x6) x7 x8 x9 14)) (arg18.view.read (Elt Ideal) f16))) x).symm
    conv_rhs => rw [← ld_whole_sc (arg18.view.read (Elt Ideal) f16)]
    rfl
  · exact View.cover_of_tiledL _ ![1, 8, 128] (by sl_kernel_rfl) y

end Cert.KernelIdeal.Gen

end
-- ==== Proof.Hand.Sel.lean ====
/- The lanes of the scale blocks: the 32 nested choices put row `8 m + h` of the scales in lane `32 b + m` of row `h`, and leave
   the other lanes. -/
module

public import proofs.«01_k».proof.Proof.Hand.Tail
import all proofs.«01_k».proof.Proof.Hand.Run
public import Idealize.ShloMosaic.Lib.Pointwise

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI

/-- The value of a lane after the first `n` choices. -/
def chain (sc : FVec Ideal S256x1 .f32) (h : Fin 8) (L B : BitVec 32) (p : EReal) : (n : ℕ) → n ≤ 32 → EReal
  | 0, _ => p
  | m + 1, hm => Scalar.select (IntOp.cmpi .eq L (Scalar.addi B (BitVec.ofNat 32 m))) (sc (ix2 (⟨8 * m + h.val, by omega⟩ : Fin 256) (0 : Fin 1)))
      (chain sc h L B p m (by omega))

theorem chain_eq (sc : FVec Ideal S256x1 .f32) (h : Fin 8) (l : Fin 128) (b : ℕ) (hb : b < 4) (p : EReal) (n : ℕ) (hn : n ≤ 32) :
    chain sc h (BitVec.ofNat 32 l.val) (BitVec.ofNat 32 (32 * b)) p n hn
      = if hl : 32 * b ≤ l.val ∧ l.val < 32 * b + n then sc (ix2 (⟨8 * (l.val - 32 * b) + h.val, by omega⟩ : Fin 256) (0 : Fin 1)) else p := by
  induction n with
  | zero => rw [chain, dif_neg (by omega)]
  | succ m ih =>
    rw [chain, ih]
    have hc : (IntOp.cmpi .eq (BitVec.ofNat 32 l.val) (Scalar.addi (BitVec.ofNat 32 (32 * b)) (BitVec.ofNat 32 m)) = 1) ↔ l.val = 32 * b + m := by
      have h1 : l.val < 128 := l.isLt
      have e : Scalar.addi (BitVec.ofNat 32 (32 * b)) (BitVec.ofNat 32 m) = BitVec.ofNat 32 (32 * b + m) := (BitVec.ofNat_add (32 * b) m).symm
      rw [e]
      constructor
      · intro h
        by_contra hne
        have hn : (BitVec.ofNat 32 l.val == BitVec.ofNat 32 (32 * b + m)) = false := by
          rw [beq_eq_false_iff_ne]
          intro h'
          have := congrArg BitVec.toNat h'
          simp only [BitVec.toNat_ofNat] at this
          omega
        simp [IntOp.cmpi, hn] at h
      · intro h
        rw [h]; simp [IntOp.cmpi]
    unfold Scalar.select
    by_cases h : l.val = 32 * b + m
    · rw [if_pos (hc.mpr h), dif_pos (by omega)]
      congr 3; omega
    · rw [if_neg (fun h' => h (hc.mp h'))]
      by_cases h2 : 32 * b ≤ l.val ∧ l.val < 32 * b + m
      · rw [dif_pos h2, dif_pos (by omega)]
      · rw [dif_neg h2, dif_neg (by omega)]

theorem sel1294 (sc : FVec Ideal S256x1 .f32) (it : IVec S8x128 32) (b : BitVec 32) (p : FVec Ideal S8x128 .f32) (h : Fin 8) (l : Fin 128) (p0 : EReal)
    (hp : (p (ix2 h l) : EReal) = chain sc h (it (ix2 h l)) b p0 0 (by decide)) :
    (k0_pay1294 sc it b p (Scalar.addi b 0#32) (ix2 h l) : EReal) = chain sc h (it (ix2 h l)) b p0 5 (by decide) := by
  pointwise [k0_pay1294, k0_pay1289, k0_pay1290, k0_pay1291, k0_pay1292, k0_pay1293]
  rw [hp]
  have e : (⟨h.val, by omega⟩ : Fin 256) = ⟨8 * 0 + h.val, by omega⟩ := Fin.ext (by simp)
  rw [e]
  rfl

theorem sel1301 (sc : FVec Ideal S256x1 .f32) (it : IVec S8x128 32) (b : BitVec 32) (p : FVec Ideal S8x128 .f32) (h : Fin 8) (l : Fin 128) (p0 : EReal)
    (hp : (p (ix2 h l) : EReal) = chain sc h (it (ix2 h l)) b p0 5 (by decide)) :
    (k0_pay1301 sc it b p (Scalar.addi b 5#32) (ix2 h l) : EReal) = chain sc h (it (ix2 h l)) b p0 10 (by decide) := by
  pointwise [k0_pay1301, k0_pay1296, k0_pay1297, k0_pay1298, k0_pay1299, k0_pay1300]
  rw [hp]

  rfl

theorem sel1308 (sc : FVec Ideal S256x1 .f32) (it : IVec S8x128 32) (b : BitVec 32) (p : FVec Ideal S8x128 .f32) (h : Fin 8) (l : Fin 128) (p0 : EReal)
    (hp : (p (ix2 h l) : EReal) = chain sc h (it (ix2 h l)) b p0 10 (by decide)) :
    (k0_pay1308 sc it b p (Scalar.addi b 10#32) (ix2 h l) : EReal) = chain sc h (it (ix2 h l)) b p0 15 (by decide) := by
  pointwise [k0_pay1308, k0_pay1303, k0_pay1304, k0_pay1305, k0_pay1306, k0_pay1307]
  rw [hp]

  rfl

theorem sel1315 (sc : FVec Ideal S256x1 .f32) (it : IVec S8x128 32) (b : BitVec 32) (p : FVec Ideal S8x128 .f32) (h : Fin 8) (l : Fin 128) (p0 : EReal)
    (hp : (p (ix2 h l) : EReal) = chain sc h (it (ix2 h l)) b p0 15 (by decide)) :
    (k0_pay1315 sc it b p (Scalar.addi b 15#32) (ix2 h l) : EReal) = chain sc h (it (ix2 h l)) b p0 20 (by decide) := by
  pointwise [k0_pay1315, k0_pay1310, k0_pay1311, k0_pay1312, k0_pay1313, k0_pay1314]
  rw [hp]

  rfl

theorem sel1322 (sc : FVec Ideal S256x1 .f32) (it : IVec S8x128 32) (b : BitVec 32) (p : FVec Ideal S8x128 .f32) (h : Fin 8) (l : Fin 128) (p0 : EReal)
    (hp : (p (ix2 h l) : EReal) = chain sc h (it (ix2 h l)) b p0 20 (by decide)) :
    (k0_pay1322 sc it b p (Scalar.addi b 20#32) (ix2 h l) : EReal) = chain sc h (it (ix2 h l)) b p0 25 (by decide) := by
  pointwise [k0_pay1322, k0_pay1317, k0_pay1318, k0_pay1319, k0_pay1320, k0_pay1321]
  rw [hp]

  rfl

theorem sel1329 (sc : FVec Ideal S256x1 .f32) (it : IVec S8x128 32) (b : BitVec 32) (p : FVec Ideal S8x128 .f32) (h : Fin 8) (l : Fin 128) (p0 : EReal)
    (hp : (p (ix2 h l) : EReal) = chain sc h (it (ix2 h l)) b p0 25 (by decide)) :
    (k0_pay1329 sc it b p (Scalar.addi b 25#32) (ix2 h l) : EReal) = chain sc h (it (ix2 h l)) b p0 30 (by decide) := by
  pointwise [k0_pay1329, k0_pay1324, k0_pay1325, k0_pay1326, k0_pay1327, k0_pay1328]
  rw [hp]

  rfl

theorem sel3 (sc : FVec Ideal S256x1 .f32) (it : IVec S8x128 32) (b : BitVec 32) (p : FVec Ideal S8x128 .f32) (z : Fin 1) (h : Fin 8) (l : Fin 128) (p0 : EReal)
    (hp : (p (ix2 h l) : EReal) = chain sc h (it (ix2 h l)) b p0 30 (by decide)) :
    (k0_pay3 sc it b p (Scalar.addi b 30#32) (ix3 z h l) : EReal) = chain sc h (it (ix2 h l)) b p0 32 (by decide) := by
  pointwise [k0_pay3, k0_pay1, k0_pay2]
  rw [hp]
  rfl

theorem base_eq (i : grid0.Coords) : bodyRun.sl.v8934 i = BitVec.ofNat 32 (32 * ((i 1).val % 4)) := by
  unfold bodyRun.sl.v8934 bodyRun.sl.v8933 bodyRun.sl.v8931 bodyRun.sl.v8932 bodyRun.sl.v8930 bodyRun.sl.v8927 bodyRun.sl.v8928 bodyRun.sl.v8926
  have h : ∀ k : Fin 16, Scalar.muli (Scalar.select (Scalar.andi (Scalar.xori (Scalar.cmpi CmpIPredicate.slt (Scalar.remsi (BitVec.ofNat 32 k.val) 4#32) 0#32) 0#1)
      (Scalar.cmpi CmpIPredicate.ne (Scalar.remsi (BitVec.ofNat 32 k.val) 4#32) 0#32)) (Scalar.addi (Scalar.remsi (BitVec.ofNat 32 k.val) 4#32) 4#32) (Scalar.remsi (BitVec.ofNat 32 k.val) 4#32)) 32#32
      = BitVec.ofNat 32 (32 * (k.val % 4)) := by decide
  exact h (i 1)

/-- A lane of a scale block after the body: the block's own 32 lanes hold its scales, the others are as before. -/
theorem selV_apply (i : grid0.Coords) (sc : FVec Ideal S256x1 .f32) (prev : Vec Ideal S1x8x128 .f32) (z : Fin 1) (h : Fin 8) (l : Fin 128) :
    (selV i sc prev (ix3 z h l) : EReal) = if hl : 32 * ((i 1).val % 4) ≤ l.val ∧ l.val < 32 * ((i 1).val % 4) + 32 then
      (sc (ix2 (⟨8 * (l.val - 32 * ((i 1).val % 4)) + h.val, by omega⟩ : Fin 256) (0 : Fin 1)) : EReal) else prev (ix3 (0 : Fin 1) h l) := by
  have h0 : (k0_pay1287 prev (ix2 h l) : EReal) = prev (ix3 (0 : Fin 1) h l) := by pointwise [k0_pay1287]
  have it : bodyRun.sl.v8923 (ix2 h l) = BitVec.ofNat 32 l.val := by unfold bodyRun.sl.v8923; pointwise []
  have key := chain_eq sc h l ((i 1).val % 4) (by omega) (prev (ix3 (0 : Fin 1) h l)) 32 le_rfl
  rw [← key, ← it, ← base_eq i]
  exact sel3 _ _ _ _ _ _ _ _ (sel1329 _ _ _ _ _ _ _ (sel1322 _ _ _ _ _ _ _ (sel1315 _ _ _ _ _ _ _ (sel1308 _ _ _ _ _ _ _ (sel1301 _ _ _ _ _ _ _ (sel1294 _ _ _ _ _ _ _ h0))))))

end Cert.KernelIdeal.Gen

end
-- ==== Proof.Hand.Frame.lean ====
/- The frame of the idealized kernel together with what it leaves in its results, block by block. -/
module

public import proofs.«01_k».proof.Proof.Hand.Tail
public import proofs.«01_k».proof.Proof.Hand.Sel
public import Idealize.ShloMosaic.Lib.Pipeline.DatRel
public import Idealize.ShloMosaic.Lib.Pipeline.ArrRel
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Each window's current staging memref at point `t`, spelled as the pipeline passes it (`bodyAt0`), and its wholeness. -/
abbrev ms0_0 (t : Fin cfg0.N) : Memref sig .tc .vmem S1x512x8x128 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x8x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x16x8x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x16 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4096x7168 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x7168 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x7168 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S7168x128 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x32x8x128 .fp8e4m3 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x8x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x32x8x7168 .fp8e4m3 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x8x128 .f32 := win0_16.stage (cfg0.slots t 16)
abbrev hs0_16 (t : Fin cfg0.N) : (ms0_16 t).IsWhole := hstage0_16 ((cfg0.slots t 16).cast nbuf0_16)
/-- The scratch operands: whole scoped buffers of the kernel's own, passed beside the windows. -/
abbrev scM0_0 : Memref sig .tc .vmem S256x4096 .bf16 := Memref.whole cc0_scratch0
abbrev scM0_1 : Memref sig .tc .vmem S256x7168 .f32 := Memref.whole cc0_scratch1
abbrev scM0_2 : Memref sig .tc .vmem S256x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

set_option maxHeartbeats 4000000 in
/-- The body's triple with its results named: codes and scales as functions of the input blocks, each scale block
    changed on the lanes of this block's positions alone. -/
theorem body_spec (c : Dev nD) (i : grid0.Coords) (arg2 : Memref sig .tc .vmem S1x512x8x128 .fp8e4m3) (harg2 : arg2.IsWhole) (arg3 : Memref sig .tc .vmem S1x8x512 .f32) (harg3 : arg3.IsWhole) (arg4 : Memref sig .tc .vmem S1x16x8x128 .fp8e4m3) (harg4 : arg4.IsWhole) (arg5 : Memref sig .tc .vmem S1x8x128 .f32) (harg5 : arg5.IsWhole) (arg6 : Memref sig .tc .vmem S1x16x8x128 .fp8e4m3) (harg6 : arg6.IsWhole) (arg7 : Memref sig .tc .vmem S1x8x16 .f32) (harg7 : arg7.IsWhole) (arg8 : Memref sig .tc .vmem S32x128 .f32) (harg8 : arg8.IsWhole) (arg9 : Memref sig .tc .vmem S4096x7168 .fp8e4m3) (harg9 : arg9.IsWhole) (arg10 : Memref sig .tc .vmem S1x7168 .f32) (harg10 : arg10.IsWhole) (arg11 : Memref sig .tc .vmem S1x7168 .f32) (harg11 : arg11.IsWhole) (arg12 : Memref sig .tc .vmem S7168x128 .fp8e4m3) (harg12 : arg12.IsWhole) (arg13 : Memref sig .tc .vmem S1x128 .f32) (harg13 : arg13.IsWhole) (arg14 : Memref sig .tc .vmem S1x128 .f32) (harg14 : arg14.IsWhole) (arg15 : Memref sig .tc .vmem S1x32x8x128 .fp8e4m3) (harg15 : arg15.IsWhole) (arg16 : Memref sig .tc .vmem S1x8x128 .f32) (harg16 : arg16.IsWhole) (arg17 : Memref sig .tc .vmem S1x32x8x7168 .fp8e4m3) (harg17 : arg17.IsWhole) (arg18 : Memref sig .tc .vmem S1x8x128 .f32) (harg18 : arg18.IsWhole) (arg19 : Memref sig .tc .vmem S256x4096 .bf16) (harg19 : arg19.IsWhole) (arg20 : Memref sig .tc .vmem S256x7168 .f32) (harg20 : arg20.IsWhole) (arg21 : Memref sig .tc .vmem S256x128 .f32) (harg21 : arg21.IsWhole)
    (x0 : Vec Ideal S1x512x8x128 .fp8e4m3) (x1 : Vec Ideal S1x8x512 .f32) (x2 : Vec Ideal S1x16x8x128 .fp8e4m3) (x3 : Vec Ideal S1x8x128 .f32) (x4 : Vec Ideal S1x16x8x128 .fp8e4m3) (x5 : Vec Ideal S1x8x16 .f32) (x6 : Vec Ideal S32x128 .f32) (x7 : Vec Ideal S4096x7168 .fp8e4m3) (x8 : Vec Ideal S1x7168 .f32) (x9 : Vec Ideal S1x7168 .f32) (x10 : Vec Ideal S7168x128 .fp8e4m3) (x11 : Vec Ideal S1x128 .f32) (x12 : Vec Ideal S1x128 .f32)
    (d15 : Vec Ideal S1x32x8x128 .fp8e4m3) (d16 : Vec Ideal S1x8x128 .f32) (d17 : Vec Ideal S1x32x8x7168 .fp8e4m3) (d18 : Vec Ideal S1x8x128 .f32)
    (d19 : Vec Ideal S256x4096 .bf16) (d20 : Vec Ideal S256x7168 .f32) (d21 : Vec Ideal S256x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare d15 ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (CCv (CKv (SCv (HM (XB i x0 x1 x2 x3 x4 x5 x6) x7 x8 x9 14)) (accV (INVv (HM (XB i x0 x1 x2 x3 x4 x5 x6) x7 x8 x9 14)) (HF (XB i x0 x1 x2 x3 x4 x5 x6) x7 x8 x9) x10 7) x11 x12)) ∗ owns (c : Thread nD τ) arg16 fullShare (selV i (CSv (CKv (SCv (HM (XB i x0 x1 x2 x3 x4 x5 x6) x7 x8 x9 14)) (accV (INVv (HM (XB i x0 x1 x2 x3 x4 x5 x6) x7 x8 x9 14)) (HF (XB i x0 x1 x2 x3 x4 x5 x6) x7 x8 x9) x10 7) x11 x12)) d16) ∗ owns (c : Thread nD τ) arg17 fullShare (HCv (INVv (HM (XB i x0 x1 x2 x3 x4 x5 x6) x7 x8 x9 14)) (HF (XB i x0 x1 x2 x3 x4 x5 x6) x7 x8 x9)) ∗ owns (c : Thread nD τ) arg18 fullShare (selV i (SCv (HM (XB i x0 x1 x2 x3 x4 x5 x6) x7 x8 x9 14)) d18) ∗ (∃ d, owns (c : Thread nD τ) arg19 fullShare d) ∗ (∃ d, owns (c : Thread nD τ) arg20 fullShare d) ∗ (∃ d, owns (c : Thread nD τ) arg21 fullShare d)) -∗ K ⟨⟩))
      ⊢ wp frame (wpE (defs₀ (F := Ideal)) Variants.none c none) Set.univ (cc0_nsa_ck i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  subst hf15; subst hf16; subst hf17; subst hf18; subst hf19; subst hf20; subst hf21
  iapply (wp_wand_r Idealize.ShloMosaic.frame (wpE (defs₀ (F := Ideal)) Variants.none (c : Thread nD τ) none) Set.univ)
  isplitl [H2 H3 H4 H5 H6 H7 H8 H9 H10 H11 H12 H13 H14 H15 H16 H17 H18 H19 H20 H21]
  · iapply ((bodyRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 f15 f16 f17 f18 f19 f20 f21).2.2.2.2.2.2.property Set.univ)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  iintro %a ⟨H2, H3, H4, H5, H6, H7, H8, H9, H10, H11, H12, H13, H14, H15, H16, H17, H18, H19, H20, H21⟩
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; swap; · iexact H15
    ipureintro; exact o13_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 f15 f16 f17 f18 f19 f20 f21
  isplitl [H16]
  · iexists _; isplitr; swap; · iexact H16
    ipureintro; exact o14_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 f15 f16 f17 f18 f19 f20 f21
  isplitl [H17]
  · iexists _; isplitr; swap; · iexact H17
    ipureintro; exact o15_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 f15 f16 f17 f18 f19 f20 f21
  isplitl [H18]
  · iexists _; isplitr; swap; · iexact H18
    ipureintro; exact o16_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 f15 f16 f17 f18 f19 f20 f21
  isplitl [H19]
  · iexists _, _; isplitr; swap; · iexact H19
    ipureintro; rfl
  isplitl [H20]
  · iexists _, _; isplitr; swap; · iexact H20
    ipureintro; rfl
  iexists _, _; isplitr; swap; · iexact H21
  ipureintro; rfl

/-! ## What each point leaves -/

/-- The unfolded windows at point `t`, -/
def xbAt (c : Dev nD) (t : Fin cfg0.N) : Vec Ideal S256x4096 .bf16 :=
  XB (grid0.coords t) (iblk m c 0 t) (iblk m c 1 t) (iblk m c 2 t) (iblk m c 3 t) (iblk m c 4 t) (iblk m c 5 t) (iblk m c 6 t)

/-- the running maxima of its hidden rows, -/
def hmAt (c : Dev nD) (t : Fin cfg0.N) : Vec Ideal S256x128 .f32 := HM (xbAt m c t) (iblk m c 7 t) (iblk m c 8 t) (iblk m c 9 t) 14

/-- its hidden rows, -/
def hfAt (c : Dev nD) (t : Fin cfg0.N) : Vec Ideal S256x7168 .f32 := HF (xbAt m c t) (iblk m c 7 t) (iblk m c 8 t) (iblk m c 9 t)

/-- and its second product, scaled and shifted. -/
def ckAt (c : Dev nD) (t : Fin cfg0.N) : FVec Ideal S256x128 .f32 :=
  CKv (SCv (hmAt m c t)) (accV (INVv (hmAt m c t)) (hfAt m c t) (iblk m c 10 t) 7) (iblk m c 11 t) (iblk m c 12 t)

/-- A scale block after point `t` of a group of four: the lanes of the points done so far hold their rows' scales. -/
def Lanes (val : Fin cfg0.N → FVec Ideal S256x1 .f32) (t : Fin cfg0.N) (X : Vec Ideal S1x8x128 .f32) : Prop :=
  ∀ (h : Fin 8) (l : Fin 128) (hl : l.val < 32 * (t.val % 4) + 32),
    (X (ix3 (0 : Fin 1) h l) : EReal) = val ⟨t.val - t.val % 4 + l.val / 32, by have := t.isLt; omega⟩
      (ix2 (⟨8 * (l.val % 32) + h.val, by have := h.isLt; omega⟩ : Fin 256) (0 : Fin 1))

theorem coord1 : ∀ t : Fin cfg0.N, ((grid0.coords t) 1).val % 4 = t.val % 4 :=
  (by decide +kernel : ∀ t : Fin grid0.N, ((grid0.coords t) 1).val % 4 = t.val % 4)

/-- One point adds its lanes. -/
theorem sel_lanes (val : Fin cfg0.N → FVec Ideal S256x1 .f32) (t : Fin cfg0.N) (prev : Vec Ideal S1x8x128 .f32)
    (hp : t.val % 4 ≠ 0 → Lanes val ⟨t.val - 1, Nat.lt_of_le_of_lt (Nat.sub_le _ _) t.isLt⟩ prev) :
    Lanes val t (selV (grid0.coords t) (val t) prev) := by
  intro h l hl
  have hc := coord1 t
  rw [selV_apply]
  by_cases hb : 32 * (t.val % 4) ≤ l.val
  · rw [dif_pos (by rw [hc]; omega)]
    have e1 : (⟨t.val - t.val % 4 + l.val / 32, by have := t.isLt; omega⟩ : Fin cfg0.N) = t := Fin.ext (by show _ = t.val; simp only; omega)
    rw [e1]
    have e2 : ∀ (a b : Fin 256), a = b → (val t (ix2 a (0 : Fin 1)) : EReal) = val t (ix2 b (0 : Fin 1)) := fun a b e => by rw [e]
    exact e2 _ _ (Fin.ext (by show _ = 8 * (l.val % 32) + h.val; simp only [hc]; omega))
  · rw [dif_neg (by rw [hc]; omega)]
    have h4 : t.val % 4 ≠ 0 := by omega
    have h5 : (t.val - 1) % 4 = t.val % 4 - 1 := by omega
    refine (hp h4 h l (by show l.val < 32 * ((t.val - 1) % 4) + 32; omega)).trans ?_
    have e1 : ∀ (a b : Fin cfg0.N) (j : S256x1.Idx), a = b → (val a j : EReal) = val b j := fun a b j e => by rw [e]
    exact e1 _ _ _ (Fin.ext (by show (t.val - 1) - (t.val - 1) % 4 + l.val / 32 = t.val - t.val % 4 + l.val / 32; omega))

/-- What a point leaves in each of the four result windows. -/
def RL (c : Dev nD) (w : Fin cfg0.W) (t : Fin cfg0.N) : ((cfg0.win w).block.Idx → Elt Ideal (cfg0.win w).elt) → Prop :=
  match w with
  | ⟨13, _⟩ => fun X => X = CCv (ckAt m c t)
  | ⟨14, _⟩ => fun X => Lanes (fun t => CSv (ckAt m c t)) t X
  | ⟨15, _⟩ => fun X => X = HCv (INVv (hmAt m c t)) (hfAt m c t)
  | ⟨16, _⟩ => fun X => Lanes (fun t => SCv (hmAt m c t)) t X
  | _ => fun _ => True

/-- The four result windows: what is left in them is stated by `RL`. -/
def forgets0 : Fin 17 → Bool := fun w => w.val == 13 || w.val == 14 || w.val == 15 || w.val == 16

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨_ + 17, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- The proof data with the result windows held to `RL`. -/
abbrev rd (c : Dev nD) := (dats m 0 c).toRRel forgets0 (RL m c)

theorem fetch_out : ∀ t : Fin cfg0.N, (cfg0.win 14).fetch t = false ∧ (cfg0.win 16).fetch t = false :=
  (by decide +kernel : ∀ t : Fin grid0.N, win0_14.fetch t = false ∧ win0_16.fetch t = false)

/-- Inside a group of four a scale block is found as the point before left it. -/
theorem found14 (c : Dev nD) (t : Fin cfg0.N) (Y : Vec Ideal S1x8x128 .f32) (h : (rd m c).Finds 14 t Y) (h4 : t.val % 4 ≠ 0) :
    Lanes (fun t => CSv (ckAt m c t)) ⟨t.val - 1, Nat.lt_of_le_of_lt (Nat.sub_le _ _) t.isLt⟩ Y := by
  rcases ((rd m c).finds_of_pos (fetch_out t).1 (by omega) Y).mp h with hf | hl
  · exact absurd ((flush0_14 _).mp hf) (by show ¬((t.val - 1) % 4 = 3); omega)
  · exact (dats m 0 c).toRRel_leaves (w := 14) rfl hl

theorem found16 (c : Dev nD) (t : Fin cfg0.N) (Y : Vec Ideal S1x8x128 .f32) (h : (rd m c).Finds 16 t Y) (h4 : t.val % 4 ≠ 0) :
    Lanes (fun t => SCv (hmAt m c t)) ⟨t.val - 1, Nat.lt_of_le_of_lt (Nat.sub_le _ _) t.isLt⟩ Y := by
  rcases ((rd m c).finds_of_pos (fetch_out t).2 (by omega) Y).mp h with hf | hl
  · exact absurd ((flush0_16 _).mp hf) (by show ¬((t.val - 1) % 4 = 3); omega)
  · exact (dats m 0 c).toRRel_leaves (w := 16) rfl hl

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ Y, ⌜(rd m c).Finds 13 t Y⌝ ∗ owns (c : Thread nD τ) (ms0_13 t) fullShare Y)
    ∗ (∃ Y, ⌜(rd m c).Finds 14 t Y⌝ ∗ owns (c : Thread nD τ) (ms0_14 t) fullShare Y)
    ∗ (∃ Y, ⌜(rd m c).Finds 15 t Y⌝ ∗ owns (c : Thread nD τ) (ms0_15 t) fullShare Y)
    ∗ (∃ Y, ⌜(rd m c).Finds 16 t Y⌝ ∗ owns (c : Thread nD τ) (ms0_16 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ (∃ X, ⌜RL m c 13 t X⌝ ∗ owns (c : Thread nD τ) (ms0_13 t) fullShare X)
    ∗ (∃ X, ⌜RL m c 14 t X⌝ ∗ owns (c : Thread nD τ) (ms0_14 t) fullShare X)
    ∗ (∃ X, ⌜RL m c 15 t X⌝ ∗ owns (c : Thread nD τ) (ms0_15 t) fullShare X)
    ∗ (∃ X, ⌜RL m c 16 t X⌝ ∗ owns (c : Thread nD τ) (ms0_16 t) fullShare X))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.castSucc = Pipeline.ΦA spec0 c from rfl, PhiA0_eq]
  iintro ⟨⟨⟨⟨%e0, HS0⟩, ⟨%e1, HS1⟩, ⟨%e2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, %hd13, H13⟩, ⟨%d14, %hd14, H14⟩, ⟨%d15, %hd15, H15⟩, ⟨%d16, %hd16, H16⟩⟩
  iapply (body_spec c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d13 d14 d15 d16 e0 e1 e2)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HS0]; · iexact HS0
  isplitl [HS1]; · iexact HS1
  isplitl [HS2]; · iexact HS2
  iintro ⟨H0, H1, H2, H3, H4, H5, H6, H7, H8, H9, H10, H11, H12, H13, H14, H15, H16, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iexists _; isplitr; swap; · iexact H13
    ipureintro; exact rfl
  isplitl [H14]
  · iexists _; isplitr; swap; · iexact H14
    ipureintro; exact sel_lanes (fun t => CSv (ckAt m c t)) t d14 (found14 m c t d14 hd14)
  isplitl [H15]
  · iexists _; isplitr; swap; · iexact H15
    ipureintro; exact rfl
  iexists _; isplitr; swap; · iexact H16
  ipureintro; exact sel_lanes (fun t => SCv (hmAt m c t)) t d16 (found16 m c t d16 hd16)

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation at every point, the result windows held to `RL`. -/
theorem body_obligation (c : Dev nD) : Pipeline.BodyObligationRel (dats m 0 c) (defs₀ (F := Ideal)) Variants.none () Set.univ forgets0 (RL m c) := fun t => by
  rw [bigSep_W0, bigSep_W0, defs₀_row]
  exact triple_restated (sound_body m c t) rfl .rfl fun _ => .rfl

/-! ## The run -/

set_option backward.isDefEq.respectTransparency.types false in
/-- The run: the arrays at contents the points may have left, every other buffer as the pipeline found it, and no
    semaphore raised. -/
theorem run_main_quiescent : θ_run defs (onTc (τ := τ) (main (F := Ideal))) (s₀ m ρ) (fun r => (Pipeline.RDat.FramePost (cfgs 0) (fun c => rd m c) (V m)) r ∧ r.2.sem = fun _ => 0) :=
  Pipeline.RDat.θ_run_frame_track_shared (Q' := _) cfgs (0 : Fin 1) launch₀0 defs₀ Variants.none (fun c => rd m c) m ρ main
    (hbody := fun c => (body_obligation m c).toRRel) (hq := fun _ _ _ => rfl)
    (howed := fun _ _ => rfl) (V := V m) (hmain := hmain m Variants.none) (hA := A_eq m) (hin := fun _ => .rfl) (hout := fun _ => .rfl)

theorem run_main : θ_run defs (onTc (τ := τ) (main (F := Ideal))) (s₀ m ρ) (Pipeline.RDat.FramePost (cfgs 0) (fun c => rd m c) (V m)) :=
  (θ_run defs _ _).mono (fun _ h => h.1) (run_main_quiescent m ρ)

/-- They are unchanged. -/
theorem kept_of {r : PUnit × MemSt nD τ sig (Elt Ideal)} (h : Pipeline.RDat.FramePost (cfgs 0) (fun c => rd m c) (V m) r) : ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  fun c => ⟨(Pipeline.RDat.FramePost.arr_in h c 2 rfl).trans ((A_eq m c 2).trans (V_main_arg0 m c)),
      ((h c).2 main_arg1 (Pipeline.mem_restRefs_of main_arg1 (by decide) (by decide))).trans (V_main_arg1 m c),
      (Pipeline.RDat.FramePost.arr_in h c 4 rfl).trans ((A_eq m c 4).trans (V_main_arg2 m c)),
      ((h c).2 main_arg3 (Pipeline.mem_restRefs_of main_arg3 (by decide) (by decide))).trans (V_main_arg3 m c),
      (Pipeline.RDat.FramePost.arr_in h c 6 rfl).trans ((A_eq m c 6).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      (Pipeline.RDat.FramePost.arr_in h c 10 rfl).trans ((A_eq m c 10).trans (V_main_arg8 m c)),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩

/-- THE FRAME of the idealized kernel. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨kept_of m h.1, h.2⟩) (run_main_quiescent m ρ)

end Cert.KernelIdeal.Gen

end
-- ==== Proof.Math.Scalar.lean ====
/- The scalar facts of the value claim, over the extended reals: the exponent search of the kernel finds the exponent the
   reference writes with logarithms, and the two ways of writing the polynomials of the activation agree. -/
module

public import Idealize.ShloMosaic.PureOps
public import Idealize.ShloMosaic.PureOps.Ideal
public import Idealize.ShloMosaic.PureOps.Ideal.Laws
public import Mathlib.Analysis.SpecialFunctions.Log.Basic
public import Mathlib.Analysis.SpecialFunctions.Pow.Real
public import Mathlib.Tactic.NormNum
public import Mathlib.Tactic.Linarith
public import Mathlib.Tactic.Positivity
public import Mathlib.Tactic.GCongr
public import Mathlib.Tactic.Ring

@[expose] public section

noncomputable section

namespace Cert.Math

open Idealize.ShloMosaic

/-- The value a float has whose biased exponent is `j` and whose fraction is zero. -/
def V (j : ℕ) : EReal := if j = 0 then 0 else if j < 255 then (((2 : ℝ) ^ ((j : ℤ) - 127) : ℝ) : EReal) else ⊤

theorem V_zero : V 0 = 0 := by simp [V]

theorem V_pos {j : ℕ} (h0 : 1 ≤ j) (h1 : j < 255) : V j = (((2 : ℝ) ^ ((j : ℤ) - 127) : ℝ) : EReal) := by
  unfold V; rw [if_neg (by omega), if_pos h1]

theorem V_top {j : ℕ} (h : 255 ≤ j) : V j = ⊤ := by
  unfold V; rw [if_neg (by omega), if_neg (by omega)]

/-- The value of a nonnegative float by its two fields. -/
theorem ieee_of {b : BitVec 32} (ex fr : ℕ) (h1 : (b.extractLsb' 31 1 == 1#1) = false) (h2 : (b.extractLsb' 23 8).toNat = ex)
    (h3 : (b.extractLsb' 0 23).toNat = fr) :
    Ideal.ieee 8 23 b = if ex = 255 then (if fr = 0 then ⊤ else ⊥)
      else if ex = 0 then ((fr * (2 : ℝ) ^ (-149 : ℤ) : ℝ) : EReal)
      else (((8388608 + fr : ℕ) * (2 : ℝ) ^ ((ex : ℤ) - 150) : ℝ) : EReal) := by
  subst h2 h3
  unfold Ideal.ieee
  simp only [h1, Bool.false_eq_true, if_false, one_mul]
  have e1 : ((b.extractLsb' 23 8).toNat : ℤ) - (2 ^ (8 - 1) - 1) - (23 : ℕ) = (b.extractLsb' 23 8).toNat - 150 := by norm_num; ring
  rw [e1]
  norm_num

theorem two_zpow_split (z : ℤ) : (2 : ℝ) ^ (z - 127) = 8388608 * (2 : ℝ) ^ (z - 150) := by
  have h := zpow_add₀ (show (2 : ℝ) ≠ 0 by norm_num) 23 (z - 150)
  rw [show (23 : ℤ) + (z - 150) = z - 127 by ring] at h
  rw [h]
  norm_num

/-- Shifting `j` into the exponent field makes the float of value `V j`. -/
theorem ofBits_shl (b : BitVec 32) (hj : b.toNat ≤ 255) :
    FloatOps.ofBits (F := Ideal) .f32 (IntOp.shli .vector b 23#32) = V b.toNat := by
  have hs : IntOp.shli .vector b 23#32 = b <<< (23 : ℕ) := by
    unfold IntOp.shli; rw [if_pos (by decide)]; rfl
  rw [hs]
  show Ideal.ieee 8 23 (b <<< (23 : ℕ)) = V b.toNat
  have hn : (b <<< (23 : ℕ)).toNat = b.toNat * 2 ^ 23 := by
    rw [BitVec.toNat_shiftLeft, Nat.shiftLeft_eq]; omega
  have h1 : ((b <<< (23 : ℕ)).extractLsb' 31 1 == 1#1) = false := by
    rw [beq_eq_false_iff_ne]; intro h
    have h := congrArg BitVec.toNat h
    rw [BitVec.extractLsb'_toNat, hn, Nat.shiftRight_eq_div_pow, BitVec.toNat_ofNat] at h
    omega
  have h2 : ((b <<< (23 : ℕ)).extractLsb' 23 8).toNat = b.toNat := by
    rw [BitVec.extractLsb'_toNat, hn, Nat.shiftRight_eq_div_pow]; omega
  have h3 : ((b <<< (23 : ℕ)).extractLsb' 0 23).toNat = 0 := by
    rw [BitVec.extractLsb'_toNat, hn, Nat.shiftRight_eq_div_pow]; omega
  rw [ieee_of _ _ h1 h2 h3]
  unfold V
  by_cases h255 : b.toNat = 255
  · rw [h255]; norm_num
  · by_cases h0 : b.toNat = 0
    · rw [h0]; norm_num
    · rw [if_neg h255, if_neg h0, if_neg h0, if_pos (by omega)]
      rw [two_zpow_split]
      push_cast; ring

/-- One step of the kernel's search, by the power of two `k`. -/
def kstep (r : EReal) (k b : BitVec 32) : BitVec 32 :=
  Scalar.select (FloatOps.cmpf (F := Ideal) (φ := .f32) .olt r (FloatOps.ofBits .f32 (IntOp.shli .vector (IntOp.addi b k) 23#32))) b (IntOp.addi b k)

/-- The search halves the interval in which the value lies. -/
theorem kstep_spec (r : EReal) (b k : BitVec 32) (n : ℕ) (hk : k.toNat = n) (hn : 1 ≤ n) (hb : b.toNat + 2 * n ≤ 256)
    (h1 : V b.toNat ≤ r) (h2 : r < V (b.toNat + 2 * n)) :
    (kstep r k b).toNat + n ≤ 256 ∧ V (kstep r k b).toNat ≤ r ∧ r < V ((kstep r k b).toNat + n) := by
  have ha : (IntOp.addi b k).toNat = b.toNat + n := by
    unfold IntOp.addi; rw [BitVec.toNat_add, hk]; omega
  unfold kstep Scalar.select
  rw [ofBits_shl _ (by omega), ha]
  by_cases h : r < V (b.toNat + n)
  · rw [if_pos (by simp [Ideal.cmpf_def, Ideal.cmp, h])]
    exact ⟨by omega, h1, h⟩
  · rw [if_neg (by simp [Ideal.cmpf_def, Ideal.cmp, h]), ha]
    refine ⟨by omega, not_lt.mp h, ?_⟩
    rw [show b.toNat + n + n = b.toNat + 2 * n by ring]; exact h2

/-- The eight steps of the kernel's search. -/
def search (r : EReal) : BitVec 32 :=
  kstep r 1#32 (kstep r 2#32 (kstep r 4#32 (kstep r 8#32 (kstep r 16#32 (kstep r 32#32 (kstep r 64#32 (kstep r 128#32 0#32)))))))

theorem search_spec (r : EReal) (h0 : 0 ≤ r) (h1 : r < ⊤) :
    (search r).toNat + 1 ≤ 256 ∧ V (search r).toNat ≤ r ∧ r < V ((search r).toNat + 1) := by
  have s0 := kstep_spec r 0#32 128#32 128 rfl (by norm_num) (by decide) (by rw [show (0#32 : BitVec 32).toNat = 0 from rfl, V_zero]; exact h0)
    (by rw [V_top (by decide)]; exact h1)
  have s1 := kstep_spec r _ 64#32 64 rfl (by norm_num) s0.1 s0.2.1 s0.2.2
  have s2 := kstep_spec r _ 32#32 32 rfl (by norm_num) s1.1 s1.2.1 s1.2.2
  have s3 := kstep_spec r _ 16#32 16 rfl (by norm_num) s2.1 s2.2.1 s2.2.2
  have s4 := kstep_spec r _ 8#32 8 rfl (by norm_num) s3.1 s3.2.1 s3.2.2
  have s5 := kstep_spec r _ 4#32 4 rfl (by norm_num) s4.1 s4.2.1 s4.2.2
  have s6 := kstep_spec r _ 2#32 2 rfl (by norm_num) s5.1 s5.2.1 s5.2.2
  exact kstep_spec r _ 1#32 1 rfl (by norm_num) s6.1 s6.2.1 s6.2.2

/-- The kernel's exponent: the one found, less `126`, and zero where nothing was found. -/
def kexp (b : BitVec 32) : BitVec 32 :=
  Scalar.select (IntOp.cmpi .eq b 0#32) 0#32 (IntOp.subi b 126#32)

/-- The kernel's reciprocal of the scale, and its scale. -/
def kinv (r : EReal) : EReal := FloatOps.ofBits (F := Ideal) .f32 (IntOp.shli .vector (IntOp.subi 127#32 (kexp (search r))) 23#32)
def kscale (r : EReal) : EReal := FloatOps.ofBits (F := Ideal) .f32 (IntOp.shli .vector (IntOp.addi 127#32 (kexp (search r))) 23#32)

/-- The reference's exponent, by logarithms. -/
def rexp (r : EReal) : EReal :=
  Scalar.select (FloatOps.cmpf (F := Ideal) (φ := .f32) .olt r (FloatOps.ofBits .f32 0x00800000#32)) (FloatOps.ofBits (F := Ideal) .f32 0x00000000#32)
    (FloatOps.floor (F := Ideal) (φ := .f32) (Ideal.div (Ideal.log r) (Ideal.log (FloatOps.ofBits (F := Ideal) .f32 0x40000000#32)))
      + FloatOps.ofBits (F := Ideal) .f32 0x3F800000#32)

theorem ofBits_tiny : FloatOps.ofBits (F := Ideal) .f32 0x00800000#32 = (((2 : ℝ) ^ (-126 : ℤ) : ℝ) : EReal) := by
  have h := ofBits_shl 1#32 (by decide)
  rw [V_pos (by decide) (by decide)] at h
  exact h

theorem ofBits_zero : FloatOps.ofBits (F := Ideal) .f32 0x00000000#32 = 0 := Ideal.ofBits_zero_f32

theorem ofBits_one : FloatOps.ofBits (F := Ideal) .f32 0x3F800000#32 = 1 := by
  have h := ofBits_shl 127#32 (by decide)
  rw [V_pos (by decide) (by decide)] at h
  refine h.trans ?_
  norm_num

theorem ofBits_two : FloatOps.ofBits (F := Ideal) .f32 0x40000000#32 = ((2 : ℝ) : EReal) := by
  have h := ofBits_shl 128#32 (by decide)
  rw [V_pos (by decide) (by decide)] at h
  refine h.trans ?_
  norm_num

theorem exp2_coe_int (e : ℤ) : Ideal.exp2 (((e : ℝ) : ℝ) : EReal) = (((2 : ℝ) ^ e : ℝ) : EReal) := by
  show (((2 : ℝ).rpow (e : ℝ) : ℝ) : EReal) = _
  congr 1
  exact Real.rpow_intCast 2 e

/-- Where the search ends at `J`, the reference's exponent is `J - 126`, or zero at `J = 0`. -/
theorem rexp_eq (x : ℝ) (J : ℕ) (hJ : J ≤ 252) (h1 : V J ≤ (x : EReal)) (h2 : (x : EReal) < V (J + 1)) :
    rexp x = (((if J = 0 then 0 else (J : ℤ) - 126 : ℤ) : ℝ) : EReal) := by
  unfold rexp Scalar.select
  rw [ofBits_tiny, ofBits_zero, ofBits_one, ofBits_two]
  by_cases h0 : J = 0
  · subst h0
    rw [V_pos (by norm_num) (by norm_num)] at h2
    norm_num at h2
    rw [if_pos]
    · simp
    · simp only [Ideal.cmpf_def, Ideal.cmp]
      rw [decide_eq_true]; · rfl
      rw [EReal.coe_lt_coe_iff]; norm_num; exact_mod_cast h2
  · rw [V_pos (by omega) (by omega), EReal.coe_le_coe_iff] at h1
    rw [V_pos (by omega) (by omega), EReal.coe_lt_coe_iff] at h2
    have hx : 0 < x := lt_of_lt_of_le (by positivity) h1
    have hge : ¬ ((x : EReal) < (((2 : ℝ) ^ (-126 : ℤ) : ℝ) : EReal)) := by
      rw [EReal.coe_lt_coe_iff, not_lt]
      refine le_trans ?_ h1
      apply zpow_le_zpow_right₀ (by norm_num); omega
    rw [if_neg (by simp only [Ideal.cmpf_def, Ideal.cmp]; rw [decide_eq_false hge]; decide)]
    have hl2 : Real.log 2 ≠ 0 := Real.log_ne_zero_of_pos_of_ne_one (by norm_num) (by norm_num)
    have e1 : Ideal.log (x : EReal) = (Real.log x : EReal) := by
      show (if x ≤ 0 then (⊥ : EReal) else (Real.log x : EReal)) = _
      rw [if_neg (not_le.mpr hx)]
    have e2 : Ideal.log ((2 : ℝ) : EReal) = (Real.log 2 : EReal) := by
      show (if (2 : ℝ) ≤ 0 then (⊥ : EReal) else (Real.log 2 : EReal)) = _
      rw [if_neg (by norm_num)]
    have e3 : Ideal.div (Real.log x : EReal) (Real.log 2 : EReal) = ((Real.log x / Real.log 2 : ℝ) : EReal) := by
      unfold Ideal.div
      rw [if_neg (by exact_mod_cast hl2), ← EReal.coe_inv, ← EReal.coe_mul]
      rw [div_eq_mul_inv]
    rw [e1, e2, e3]
    have hf : ⌊Real.log x / Real.log 2⌋ = (J : ℤ) - 127 := by
      have hp : 0 < Real.log 2 := Real.log_pos (by norm_num)
      rw [Int.floor_eq_iff]
      constructor
      · rw [le_div_iff₀ hp, ← Real.log_zpow]
        exact Real.log_le_log (by positivity) h1
      · rw [show (((J : ℤ) - 127 : ℤ) : ℝ) + 1 = (((J : ℤ) - 126 : ℤ) : ℝ) by push_cast; ring,
          div_lt_iff₀ hp, ← Real.log_zpow]
        refine Real.log_lt_log hx (lt_of_lt_of_eq h2 ?_)
        congr 1; push_cast; ring
    show (((⌊Real.log x / Real.log 2⌋ : ℤ) : ℝ) : EReal) + 1 = _
    rw [hf, if_neg h0, ← EReal.coe_one, ← EReal.coe_add]
    congr 1; push_cast; ring

/-- So the kernel's pair is the reference's powers of two, at every real value below `2^125`. -/
theorem inv_scale_eq (x : ℝ) (h0 : 0 ≤ x) (h1 : x < (2 : ℝ) ^ (125 : ℤ)) :
    kinv x = Ideal.exp2 (FloatOps.ofBits (F := Ideal) .f32 0x00000000#32 - rexp x) ∧ kscale x = Ideal.exp2 (rexp x) := by
  obtain ⟨hb, hl, hu⟩ := search_spec (x : EReal) (by exact_mod_cast h0) (EReal.coe_lt_top x)
  have hJ : (search x).toNat ≤ 252 := by
    by_contra hc
    have hc' : 253 ≤ (search x).toNat := by omega
    by_cases h5 : (search x).toNat < 255
    · rw [V_pos (by omega) h5, EReal.coe_le_coe_iff] at hl
      have : (2 : ℝ) ^ (125 : ℤ) ≤ (2 : ℝ) ^ (((search x).toNat : ℤ) - 127) := by
        apply zpow_le_zpow_right₀ (by norm_num); omega
      linarith
    · rw [V_top (by omega)] at hl
      exact absurd hl (not_le.mpr (EReal.coe_lt_top x))
  rw [rexp_eq x _ hJ hl hu, ofBits_zero]
  unfold kinv kscale kexp Scalar.select
  by_cases hz : (search x).toNat = 0
  · have hz' : search x = 0#32 := BitVec.eq_of_toNat_eq hz
    rw [hz']
    constructor
    · have h := ofBits_shl 127#32 (by decide)
      rw [V_pos (by decide) (by decide)] at h
      refine Eq.trans ?_ (h.trans ?_)
      · rfl
      · rw [show (0 : EReal) - (((if (0#32 : BitVec 32).toNat = 0 then 0 else (((0#32 : BitVec 32).toNat : ℕ) : ℤ) - 126 : ℤ) : ℝ) : EReal) = (((0 : ℤ) : ℝ) : EReal) by simp, exp2_coe_int]
        norm_num
    · have h := ofBits_shl 127#32 (by decide)
      rw [V_pos (by decide) (by decide)] at h
      refine Eq.trans ?_ (h.trans ?_)
      · rfl
      · rw [exp2_coe_int]; norm_num
  · have hz' : IntOp.cmpi .eq (search x) 0#32 ≠ 1 := by
      simp only [IntOp.cmpi]
      have : (search x == 0#32) = false := by
        rw [beq_eq_false_iff_ne]; intro h; exact hz (by rw [h]; rfl)
      rw [this]; decide
    rw [if_neg hz', if_neg hz]
    have t1 : (IntOp.subi 127#32 (IntOp.subi (search x) 126#32)).toNat = 253 - (search x).toNat := by
      simp only [IntOp.subi, BitVec.toNat_sub, BitVec.toNat_ofNat]; omega
    have t2 : (IntOp.addi 127#32 (IntOp.subi (search x) 126#32)).toNat = (search x).toNat + 1 := by
      simp only [IntOp.subi, IntOp.addi, BitVec.toNat_sub, BitVec.toNat_add, BitVec.toNat_ofNat]; omega
    rw [ofBits_shl _ (by rw [t1]; omega), ofBits_shl _ (by rw [t2]; omega), t1, t2, V_pos (by omega) (by omega), V_pos (by omega) (by omega)]
    constructor
    · rw [zero_sub, ← EReal.coe_neg, ← Int.cast_neg, exp2_coe_int]
      congr 2; push_cast [Nat.cast_sub (show (search x).toNat ≤ 253 by omega)]; ring
    · rw [exp2_coe_int]
      congr 2; push_cast; ring

/-- The value both sides take the exponent of: the row's maximum, kept finite, over the largest code. -/
def rnorm (a : EReal) : EReal :=
  min a (FloatOps.ofBits (F := Ideal) .f32 0x7F7FFFFF#32) * FloatOps.ofBits (F := Ideal) .f32 0x3B124925#32

theorem rnorm_real (a : EReal) (ha : 0 ≤ a) : ∃ x : ℝ, rnorm a = x ∧ 0 ≤ x ∧ x < (2 : ℝ) ^ (125 : ℤ) := by
  have e1 : FloatOps.ofBits (F := Ideal) .f32 0x7F7FFFFF#32 = (((2 ^ 24 - 1) * 2 ^ 104 : ℝ) : EReal) := by
    show Ideal.ieee 8 23 0x7F7FFFFF#32 = _
    rw [ieee_of 254 8388607 (by decide) (by decide) (by decide)]; norm_num
  have e2 : FloatOps.ofBits (F := Ideal) .f32 0x3B124925#32 = ((9586981 / 2 ^ 32 : ℝ) : EReal) := by
    show Ideal.ieee 8 23 0x3B124925#32 = _
    rw [ieee_of 118 1198373 (by decide) (by decide) (by decide)]; norm_num
  unfold rnorm
  rw [e1, e2]
  have hm : ∃ y : ℝ, min a (((2 ^ 24 - 1) * 2 ^ 104 : ℝ) : EReal) = y ∧ 0 ≤ y ∧ y ≤ (2 ^ 24 - 1) * 2 ^ 104 := by
    induction a with
    | bot => simp at ha
    | top => exact ⟨_, by rw [min_eq_right le_top], by norm_num, le_refl _⟩
    | coe z =>
      refine ⟨min z ((2 ^ 24 - 1) * 2 ^ 104), (EReal.coe_strictMono.monotone.map_min (a := z)).symm, le_min (by exact_mod_cast ha) (by norm_num), min_le_right _ _⟩
  obtain ⟨y, hy, hy0, hy1⟩ := hm
  refine ⟨y * (9586981 / 2 ^ 32), by rw [hy, EReal.coe_mul], by positivity, ?_⟩
  calc y * (9586981 / 2 ^ 32) ≤ ((2 ^ 24 - 1) * 2 ^ 104) * (9586981 / 2 ^ 32) := by gcongr
    _ < (2 : ℝ) ^ (125 : ℤ) := by norm_num

theorem kinv_eq (a : EReal) (ha : 0 ≤ a) :
    kinv (rnorm a) = Ideal.exp2 (FloatOps.ofBits (F := Ideal) .f32 0x00000000#32 - rexp (rnorm a)) := by
  obtain ⟨x, hx, h0, h1⟩ := rnorm_real a ha
  rw [hx]; exact (inv_scale_eq x h0 h1).1

theorem kscale_eq (a : EReal) (ha : 0 ≤ a) : kscale (rnorm a) = Ideal.exp2 (rexp (rnorm a)) := by
  obtain ⟨x, hx, h0, h1⟩ := rnorm_real a ha
  rw [hx]; exact (inv_scale_eq x h0 h1).2

end Cert.Math

end
-- ==== Proof.Math.Row.lean ====
/- One row of the two layers, over the extended reals: what both programs compute for one position and one head. The
   activation in the two ways it is written, the scale of a row, and the codes. -/
module

public import proofs.«01_k».proof.Proof.Math.Scalar
public import Mathlib.Tactic.Ring

@[expose] public section

noncomputable section

namespace Cert.Math

open Idealize.ShloMosaic

/-- The value of a 32-bit pattern. -/
abbrev K (b : BitVec 32) : EReal := Ideal.ofBits .f32 b

theorem K_pos {b : BitVec 32} (h1 : (b.extractLsb' 31 1 == 1#1) = false) (h2 : (b.extractLsb' 23 8).toNat ≠ 255) :
    ∃ q : ℝ, K b = (q : EReal) ∧ 0 ≤ q := by
  have h : K b = Ideal.ieee 8 23 b := rfl
  rw [h, ieee_of _ _ h1 rfl rfl, if_neg h2]
  split_ifs
  · exact ⟨_, rfl, by positivity⟩
  · exact ⟨_, rfl, by positivity⟩

theorem K_real {b : BitVec 32} (h2 : (b.extractLsb' 23 8).toNat ≠ 255) : ∃ q : ℝ, K b = (q : EReal) := by
  have h : K b = Ideal.ieee 8 23 b := rfl
  rw [h]; unfold Ideal.ieee
  have h3 : ¬ (b.extractLsb' 23 8).toNat = 2 ^ 8 - 1 := h2
  simp only [h3, if_false]
  split_ifs <;> exact ⟨_, rfl⟩

/-- The clipped magnitude the activation's tail is taken at. -/
def mag (x : EReal) : EReal := min (max x (-x)) (K 0x41600000#32)

/-- The two polynomials by nested multiplication. -/
def PH (y : EReal) : EReal :=
  (((K 0x3B84F824#32 * y + K 0x3D24DC6F#32) * y + K 0x3E3A7B16#32) * y + K 0x3EDFA3FF#32) * y + K 0x3F000000#32
def QH (y : EReal) : EReal :=
  ((((K 0x3C26A671#32 * y + K 0x3DCEA308#32) * y + K 0x3EEED8A0#32) * y + K 0x3F9953A6#32) * y + K 0x3FD5F317#32) * y + K 0x3F800000#32
/-- The two polynomials by powers. -/
def PP (y : EReal) : EReal :=
  K 0x3F000000#32 + K 0x3EDFA3FF#32 * y + K 0x3E3A7B16#32 * (y * y) + K 0x3D24DC6F#32 * (y * (y * y)) + K 0x3B84F824#32 * (y * y * (y * y))
def QP (y : EReal) : EReal :=
  K 0x3F800000#32 + K 0x3FD5F317#32 * y + K 0x3F9953A6#32 * (y * y) + K 0x3EEED8A0#32 * (y * (y * y)) + K 0x3DCEA308#32 * (y * y * (y * y))
    + K 0x3C26A671#32 * (y * (y * y * (y * y)))

/-- The activation as the kernel writes it. -/
def geluH (x : EReal) : EReal :=
  max x (K 0x00000000#32) - Ideal.div (mag x * Ideal.exp2 (mag x * K 0xBF38AA3B#32 * mag x) * PH (mag x)) (QH (mag x))
/-- The activation as the reference writes it. -/
def gelu (x : EReal) : EReal :=
  max x (K 0x00000000#32) - mag x * Ideal.exp2 (K 0xBF38AA3B#32 * (mag x * mag x)) * Ideal.div (PP (mag x)) (QP (mag x))

theorem mag_real (x : EReal) : ∃ t : ℝ, mag x = (t : EReal) ∧ 0 ≤ t := by
  obtain ⟨q, hq, hq0⟩ := K_pos (b := 0x41600000#32) (by decide) (by decide)
  unfold mag
  have h0 : (0 : EReal) ≤ min (max x (-x)) (K 0x41600000#32) := by
    refine le_min ?_ ?_
    · rcases le_total 0 x with h | h
      · exact le_max_of_le_left h
      · exact le_max_of_le_right (by rwa [EReal.neg_nonneg])
    · rw [hq]; exact_mod_cast hq0
  have h1 : min (max x (-x)) (K 0x41600000#32) ≤ (q : EReal) := by rw [← hq]; exact min_le_right _ _
  refine ⟨(min (max x (-x)) (K 0x41600000#32)).toReal, ?_, ?_⟩
  · refine (EReal.coe_toReal ?_ ?_).symm
    · intro h; rw [h] at h1; exact absurd h1 (by simp)
    · intro h; rw [h] at h0; exact absurd h0 (by simp)
  · exact EReal.toReal_nonneg h0

theorem gelu_eq (x : EReal) : geluH x = gelu x := by
  obtain ⟨t, ht, ht0⟩ := mag_real x
  unfold geluH gelu
  rw [ht]
  obtain ⟨c, hc⟩ := K_real (b := 0xBF38AA3B#32) (by decide)
  obtain ⟨p0, hp0, -⟩ := K_pos (b := 0x3F000000#32) (by decide) (by decide)
  obtain ⟨p1, hp1, -⟩ := K_pos (b := 0x3EDFA3FF#32) (by decide) (by decide)
  obtain ⟨p2, hp2, -⟩ := K_pos (b := 0x3E3A7B16#32) (by decide) (by decide)
  obtain ⟨p3, hp3, -⟩ := K_pos (b := 0x3D24DC6F#32) (by decide) (by decide)
  obtain ⟨p4, hp4, -⟩ := K_pos (b := 0x3B84F824#32) (by decide) (by decide)
  obtain ⟨q1, hq1, z1⟩ := K_pos (b := 0x3FD5F317#32) (by decide) (by decide)
  obtain ⟨q2, hq2, z2⟩ := K_pos (b := 0x3F9953A6#32) (by decide) (by decide)
  obtain ⟨q3, hq3, z3⟩ := K_pos (b := 0x3EEED8A0#32) (by decide) (by decide)
  obtain ⟨q4, hq4, z4⟩ := K_pos (b := 0x3DCEA308#32) (by decide) (by decide)
  obtain ⟨q5, hq5, z5⟩ := K_pos (b := 0x3C26A671#32) (by decide) (by decide)
  have hq0 : K 0x3F800000#32 = ((1 : ℝ) : EReal) := ofBits_one.trans (by norm_num)
  have eP : PH (t : EReal) = PP (t : EReal) := by
    unfold PH PP
    rw [hp0, hp1, hp2, hp3, hp4]; norm_cast; ring
  have eQ : QH (t : EReal) = QP (t : EReal) := by
    unfold QH QP
    rw [hq0, hq1, hq2, hq3, hq4, hq5]; norm_cast; ring
  have eE : (t : EReal) * K 0xBF38AA3B#32 * t = K 0xBF38AA3B#32 * ((t : EReal) * t) := by
    rw [hc]; norm_cast; ring
  have nQ : QP (t : EReal) ≠ 0 := by
    unfold QP
    rw [hq0, hq1, hq2, hq3, hq4, hq5]
    have : (0 : ℝ) < 1 + q1 * t + q2 * (t * t) + q3 * (t * (t * t)) + q4 * (t * t * (t * t)) + q5 * (t * (t * t * (t * t))) := by positivity
    exact_mod_cast this.ne'
  rw [eP, eQ, eE]
  unfold Ideal.div
  rw [if_neg nQ, if_neg nQ, mul_assoc]

/-- The largest magnitude of a row. -/
def amax {n : ℕ} (v : Fin n → EReal) : EReal := Finset.univ.fold max (K 0xFF800000#32) (fun k => max (v k) (-(v k)))

theorem K_neg_inf : K 0xFF800000#32 = ⊥ := by
  have h : K 0xFF800000#32 = Ideal.ieee 8 23 0xFF800000#32 := rfl
  rw [h]; unfold Ideal.ieee
  rw [if_pos (by decide), if_pos (by decide), if_pos (by decide)]

theorem abs_nonneg (x : EReal) : 0 ≤ max x (-x) := by
  rcases le_total 0 x with h | h
  · exact le_max_of_le_left h
  · exact le_max_of_le_right (by rwa [EReal.neg_nonneg])

theorem le_fold {α : Type*} (s : Finset α) (b : EReal) (f : α → EReal) (k : α) (hk : k ∈ s) : f k ≤ s.fold max b f :=
  (Finset.le_fold_max (f k)).mpr (Or.inr ⟨k, hk, le_rfl⟩)

theorem amax_nonneg {n : ℕ} (v : Fin (n + 1) → EReal) : 0 ≤ amax v :=
  (abs_nonneg (v 0)).trans (le_fold Finset.univ _ (fun k => max (v k) (-(v k))) 0 (Finset.mem_univ _))

/-- A value that bounds the magnitudes of a row, and is zero or one of them, is the largest. -/
theorem amax_of {n : ℕ} (v : Fin (n + 1) → EReal) (A : EReal) (hle : ∀ k, max (v k) (-(v k)) ≤ A)
    (hub : ∀ B : EReal, 0 ≤ B → (∀ k, max (v k) (-(v k)) ≤ B) → A ≤ B) : A = amax v := by
  refine le_antisymm (hub _ (amax_nonneg v) fun k => le_fold Finset.univ _ (fun k => max (v k) (-(v k))) k (Finset.mem_univ _)) ?_
  refine (Finset.fold_max_le (b := K 0xFF800000#32) A).mpr ⟨by rw [K_neg_inf]; exact bot_le, fun k _ => hle k⟩

/-- The scale of a row, its reciprocal, and the code of one value. -/
def scl (a : EReal) : EReal := Ideal.exp2 (rexp (rnorm a))
def inv (a : EReal) : EReal := Ideal.exp2 (K 0x00000000#32 - rexp (rnorm a))
theorem scl_eq (a : EReal) : scl a = Ideal.exp2 (rexp (rnorm a)) := rfl
theorem inv_eq (a : EReal) : inv a = Ideal.exp2 (K 0x00000000#32 - rexp (rnorm a)) := rfl
def code (x i : EReal) : EReal := min (K 0x43E00000#32) (max (K 0xC3E00000#32) (x * i))

/-- Token `p` of the window of position `n`: the previous chunk's in the first half of the first window. -/
def winE (T : Fin 8192 → EReal) (P : Fin 16 → EReal) (n : Fin 512) (p : Fin 32) : EReal :=
  if h : 16 * n.val + p.val < 16 then P ⟨p.val, by omega⟩ else T ⟨16 * n.val + p.val - 16, by omega⟩

/-- One value of the first layer: the window's features against one column of the weight, scaled and biased. -/
def pre1 (X W : Fin 32 → Fin 128 → EReal) (s b : EReal) : EReal :=
  (∑ k : Fin 4096, X ⟨k.val / 128, by omega⟩ ⟨k.val % 128, by omega⟩ * W ⟨k.val / 128, by omega⟩ ⟨k.val % 128, by omega⟩) * s + b

/-- The second layer's row, off the hidden row. -/
def row2 (h : Fin 7168 → EReal) (w2 : Fin 7168 → Fin 128 → EReal) (s2 b2 : Fin 128 → EReal) (c : Fin 128) : EReal :=
  (∑ f : Fin 7168, code (h f) (inv (amax h)) * w2 f c) * scl (amax h) * s2 c + b2 c

end Cert.Math
end
-- ==== Proof.Hand.Ker.lean ====
/- What a block's results are, element by element, off the packed block: the activation of the first layer, the largest
   magnitude of a row, its scale, the codes, the second layer's row. -/
module

public import proofs.«01_k».proof.Proof.Math.Row
public import proofs.«01_k».proof.Proof.Hand.Tail
public import Idealize.ShloMosaic.Lib.Pointwise

@[expose] public section

set_option maxRecDepth 16384
set_option maxHeartbeats 1000000

noncomputable section

namespace Cert.KernelIdeal.Gen

open Idealize.ShloMosaic Idealize.ShloMosaic.TcCoe Idealize.ShloMosaic.Tactic
open Cert.Math

/-! ### The shape operations, read at an index -/

theorem kdot1_apply (v : FVec Ideal S256x4096 .bf16) (w : FVec Ideal S4096x512 .fp8e4m3) (r : Fin 256) (c : Fin 512) :
    matmul dot_S256x4096_S4096x512_S256x512_1_0_0_1_n_n none v w (constant S256x512 .f32 0x00000000#32) (ix2 r c)
      = ∑ k : Fin 4096, v (ix2 r k) * w (ix2 k c) := by pointwise []
theorem krow_apply (v : FVec Ideal S1x512 .f32) (r : Fin 256) (c : Fin 512) :
    broadcastTo S256x512 (shapeCast S1x512 v shapeCasts_S1x512_S1x512) broadcasts_S1x512_S256x512 (ix2 r c) = v (ix2 (0 : Fin 1) c) := by pointwise []
theorem kcol_apply (v : FVec Ideal S256 .f32) (r : Fin 256) :
    shapeCast S256x1 v shapeCasts_S256_S256x1 (ix2 r (0 : Fin 1)) = v (ix1 r) := by pointwise []
theorem kmax_apply (v : FVec Ideal S256x128 .f32) (r : Fin 256) :
    multiReduction (F := Ideal) .maximumf [1] S256 v 0xFF800000#32 reduces_S256x128_S256 (.inl rfl) rfl (ix1 r)
      = Finset.univ.fold max (K 0xFF800000#32) (fun k : Fin 128 => v (ix2 r k)) := by pointwise []
theorem kbc_apply (v : FVec Ideal S256x1 .f32) (r : Fin 256) (c : Fin 512) :
    broadcastTo S256x512 v broadcasts_S256x1_S256x512 (ix2 r c) = v (ix2 r (0 : Fin 1)) := by pointwise []
theorem kbc2_apply (v : FVec Ideal S256x1 .f32) (r : Fin 256) (c : Fin 128) :
    broadcastTo S256x128 v broadcasts_S256x1_S256x128 (ix2 r c) = v (ix2 r (0 : Fin 1)) := by pointwise []
theorem krow2_apply (v : FVec Ideal S1x128 .f32) (r : Fin 256) (c : Fin 128) :
    broadcastTo S256x128 (shapeCast S1x128 v shapeCasts_S1x128_S1x128) broadcasts_S1x128_S256x128 (ix2 r c) = v (ix2 (0 : Fin 1) c) := by pointwise []
theorem kdot2_apply (v : FVec Ideal S256x512 .fp8e4m3) (w z : FVec Ideal S512x128 .fp8e4m3) (r : Fin 256) (c : Fin 128) :
    matmul dot_S256x512_S512x256_S256x256_1_0_0_1_n_n none v
        (concatenate S512x256 1 [⟨S512x128, w⟩, ⟨S512x128, z⟩] concatenates_S512x128_S512x128_S512x256_d1)
        (constant S256x256 .f32 0x00000000#32) (ix2 r (⟨c.val, by omega⟩ : Fin 256))
      = ∑ k : Fin 512, v (ix2 r k) * w (ix2 k c) := by
  pointwise []
theorem kslice_apply (v : FVec Ideal S256x256 .f32) (r : Fin 256) (c : Fin 128) :
    extractStridedSlice S256x128 ![0, 0] v slices_S256x256_o0_0_S256x128 (ix2 r c) = v (ix2 r (⟨c.val, by omega⟩ : Fin 256)) := by pointwise []
theorem kcodes_apply (v : FVec Ideal S256x128 .fp8e4m3) (n : Fin 32) (h : Fin 8) (c : Fin 128) :
    shapeCast S1x32x8x128 (shapeCast S32x8x128 v shapeCasts_S256x128_S32x8x128) shapeCasts_S32x8x128_S1x32x8x128 (ix4 (0 : Fin 1) n h c)
      = v (ix2 (⟨n.val * 8 + h.val, by omega⟩ : Fin 256) c) := by pointwise []

/-- The maximum step at an index: the four magnitudes of the lane, and what was there. -/
theorem maxStep_apply (H : FVec Ideal S256x512 .f32) (Y : Vec Ideal S256x128 .f32) (r : Fin 256) (l : Fin 128) :
    maxStep H Y (ix2 r l) = max (max (max (max (Y (ix2 r l))
      (absf H (ix2 r (⟨l.val, by omega⟩ : Fin 512)))) (absf H (ix2 r (⟨128 + l.val, by omega⟩ : Fin 512))))
      (absf H (ix2 r (⟨256 + l.val, by omega⟩ : Fin 512)))) (absf H (ix2 r (⟨384 + l.val, by omega⟩ : Fin 512))) := by
  unfold maxStep
  generalize absf H = A
  pointwise []

/-! ### The search for the exponent, the scale and the codes -/

theorem kexp_apply (W : FVec Ideal S256x1 .f32) (M : Vec Ideal S256x128 .f32) (hW : k0_pay1230 M = W) (i : S256x1.Idx) :
    INVv M i = kinv (W i) ∧ SCv M i = kscale (W i) := by
  unfold INVv SCv k0_pay1236 k0_pay1237 k0_pay1235 k0_pay1234 k0_pay1233 k0_pay1232 k0_pay1231
  rw [hW]
  exact ⟨rfl, rfl⟩

theorem krn_tower (w : FVec Ideal S256x1 .f32) (i : S256x1.Idx) :
    mulf (minimumf w (broadcast S256x1 (Scalar.ofBits (F := Ideal) .f32 0x7F7FFFFF#32))) (broadcast S256x1 (Scalar.ofBits .f32 0x3B124925#32)) i = rnorm (w i) := rfl

theorem pay1230_apply (M : Vec Ideal S256x128 .f32) (r : Fin 256) :
    k0_pay1230 M (ix2 r (0 : Fin 1)) = rnorm (Finset.univ.fold max (K 0xFF800000#32) (fun l : Fin 128 => M (ix2 r l))) := by
  unfold k0_pay1230
  try dsimp only
  rw [krn_tower, kcol_apply, kmax_apply]

theorem pay1281_apply (X : FVec Ideal S256x128 .f32) (r : Fin 256) :
    k0_pay1281 X (ix2 r (0 : Fin 1)) = rnorm (amax fun c : Fin 128 => X (ix2 r c)) := by
  unfold k0_pay1281
  try dsimp only
  rw [krn_tower, kcol_apply, kmax_apply]
  unfold amax
  rfl

theorem kexp2_apply (W : FVec Ideal S256x1 .f32) (X : FVec Ideal S256x128 .f32) (hW : k0_pay1281 X = W) (i : S256x1.Idx) :
    bitcastToFloat (F := Ideal) .f32 (shli (k0_pay1284 (k0_pay1281 X) (k0_pay1282 X)) (broadcast S256x1 23#32)) i = kinv (W i)
      ∧ CSv X i = kscale (W i) := by
  unfold CSv k0_pay1285 k0_pay1284 k0_pay1283 k0_pay1282
  rw [hW]
  exact ⟨rfl, rfl⟩

theorem ktower_code (x w : FVec Ideal S256x512 .f32) (i : S256x512.Idx) :
    truncf .fp8e4m3 (minimumf (broadcast S256x512 (Scalar.ofBits (F := Ideal) .f32 0x43E00000#32)) (maximumf (broadcast S256x512 (Scalar.ofBits .f32 0xC3E00000#32)) (mulf x w))) bitsLt_fp8e4m3_f32 i
      = Cert.Math.code (x i) (w i) := rfl
theorem ktower_code2 (x w : FVec Ideal S256x128 .f32) (i : S256x128.Idx) :
    truncf .fp8e4m3 (minimumf (broadcast S256x128 (Scalar.ofBits (F := Ideal) .f32 0x43E00000#32)) (maximumf (broadcast S256x128 (Scalar.ofBits .f32 0xC3E00000#32)) (mulf x w))) bitsLt_fp8e4m3_f32 i
      = Cert.Math.code (x i) (w i) := rfl

/-- The reciprocal the kernel finds is the reciprocal of the scale. -/
theorem kinvA (a : EReal) (h : 0 ≤ a) : kinv (rnorm a) = Cert.Math.inv a := (kinv_eq a h).trans (inv_eq a)

/-- The second layer's scale and codes. -/
theorem CSv_apply (X : FVec Ideal S256x128 .f32) (r : Fin 256) : CSv X (ix2 r (0 : Fin 1)) = scl (amax fun c : Fin 128 => X (ix2 r c)) := by
  rw [(kexp2_apply _ X rfl _).2, pay1281_apply, kscale_eq _ (amax_nonneg _), ← scl_eq]

theorem CCv_apply (X : FVec Ideal S256x128 .f32) (n : Fin 32) (h : Fin 8) (c : Fin 128) :
    CCv X (ix4 (0 : Fin 1) n h c) = Cert.Math.code (X (ix2 (⟨n.val * 8 + h.val, by omega⟩ : Fin 256) c)) (inv (amax fun c : Fin 128 => X (ix2 (⟨n.val * 8 + h.val, by omega⟩ : Fin 256) c))) := by
  have e := fun r : Fin 256 => (kexp2_apply _ X rfl (ix2 r (0 : Fin 1))).1
  unfold CCv k0_pay1286
  generalize k0_pay1284 (k0_pay1281 X) (k0_pay1282 X) = E at e ⊢
  try dsimp only
  rw [kcodes_apply, ktower_code2, kbc2_apply, e, pay1281_apply, kinvA _ (amax_nonneg _)]

/-! ### The hidden rows -/

/-- The first layer's value in the block. -/
def hk (XB : Vec Ideal S256x4096 .bf16) (x7 : Vec Ideal S4096x7168 .fp8e4m3) (x8 x9 : Vec Ideal S1x7168 .f32) (r : Fin 256) (f : Fin 7168) : EReal :=
  gelu ((∑ k : Fin 4096, (XB (ix2 r k) : EReal) * x7 (ix2 k f)) * x8 (ix2 (0 : Fin 1) f) + x9 (ix2 (0 : Fin 1) f))

theorem act_tower (P m : FVec Ideal S256x512 .f32) (i : S256x512.Idx) (hm : ∀ i, m i = mag (P i)) (q : FVec Ideal S256x512 .f32)
    (hq : ∀ i, q i = mag (P i) * Ideal.exp2 (mag (P i) * K 0xBF38AA3B#32 * mag (P i)) * PH (mag (P i))) :
    k0_pay1227 P m q k0_pay8 i = geluH (P i) := by
  refine (show _ = max (P i) (K 0x00000000#32) - Ideal.div (q i) (QH (m i)) from rfl).trans ?_
  rw [hq, hm]; rfl

theorem hTile_apply (XB : Vec Ideal S256x4096 .bf16) (x7 : Vec Ideal S4096x7168 .fp8e4m3) (x8 x9 : Vec Ideal S1x7168 .f32) (k : Fin k0_t1_loop.trips)
    (r : Fin 256) (j : Fin 512) (f : Fin 7168) (hf : f.val = 512 * k.val + j.val) : hTile XB x7 x8 x9 k (ix2 r j) = hk XB x7 x8 x9 r f := by
  have c1 : ∀ q : Fin 4096, (View.ld x7 (Rect.unit (s := S4096x7168) (k0_off1 k) S4096x512.size (k0_off1_inb k))) (ix2 q j) = x7 (ix2 q f) := by
    intro q
    refine congrArg x7 (funext fun a => ?_)
    match a with
    | ⟨0, _⟩ => exact Fin.ext (show k0_off1 k 0 + 1 * q.val = q.val by rw [k0_off1_eq]; simp)
    | ⟨1, _⟩ => exact Fin.ext (show k0_off1 k 1 + 1 * j.val = f.val by rw [k0_off1_eq, hf]; simp)
  have c2 : ∀ x : Vec Ideal S1x7168 .f32, (View.ld x (Rect.unit (s := S1x7168) (k0_off2 k) S1x512.size (k0_off2_inb k))) (ix2 (0 : Fin 1) j) = x (ix2 (0 : Fin 1) f) := by
    intro x
    refine congrArg x (funext fun a => ?_)
    match a with
    | ⟨0, _⟩ => exact Fin.ext (show k0_off2 k 0 + 1 * 0 = 0 by rw [k0_off2_eq]; simp)
    | ⟨1, _⟩ => exact Fin.ext (show k0_off2 k 1 + 1 * j.val = f.val by rw [k0_off2_eq, hf]; simp)
  unfold hTile
  generalize View.ld x7 (Rect.unit (s := S4096x7168) (k0_off1 k) S4096x512.size (k0_off1_inb k)) = w at c1 ⊢
  have d8 := c2 x8
  have d9 := c2 x9
  generalize View.ld x8 (Rect.unit (s := S1x7168) (k0_off2 k) S1x512.size (k0_off2_inb k)) = s at d8 ⊢
  generalize View.ld x9 (Rect.unit (s := S1x7168) (k0_off2 k) S1x512.size (k0_off2_inb k)) = b at d9 ⊢
  have e5 : k0_pay5 XB w s b (ix2 r j) = (∑ k : Fin 4096, (XB (ix2 r k) : EReal) * x7 (ix2 k f)) * x8 (ix2 (0 : Fin 1) f) + x9 (ix2 (0 : Fin 1) f) := by
    unfold k0_pay5
    try dsimp only
    rw [shapeCast_self]
    refine (congrArg₂ (fun u v : EReal => u + v) (congrArg₂ (fun u v : EReal => u * v) (kdot1_apply _ _ _ _) (krow_apply _ _ _)) (krow_apply _ _ _) : _).trans ?_
    rw [d8, d9]
    simp only [c1]
  rw [act_tower (k0_pay5 XB w s b) (k0_pay6 XB w s b) (ix2 r j) ?_ (k0_pay7 XB w s b) ?_, gelu_eq, e5]
  · rfl
  · intro i
    unfold k0_pay6
    generalize k0_pay5 XB w s b = P
    rfl
  · intro i
    unfold k0_pay7 k0_pay6
    generalize k0_pay5 XB w s b = P
    rfl

theorem HF_apply (XB : Vec Ideal S256x4096 .bf16) (x7 : Vec Ideal S4096x7168 .fp8e4m3) (x8 x9 : Vec Ideal S1x7168 .f32) (r : Fin 256) (f : Fin 7168) :
    HF XB x7 x8 x9 (ix2 r f) = hk XB x7 x8 x9 r f := by
  have e := hTile_apply XB x7 x8 x9 ⟨f.val / 512, by rw [trips_eq]; omega⟩ r (⟨f.val % 512, by omega⟩ : Fin 512) f (by dsimp only; omega)
  refine Eq.trans ?_ e
  unfold HF
  refine congrArg _ (funext fun a => ?_)
  match a with
  | ⟨0, _⟩ => rfl
  | ⟨1, _⟩ => rfl

theorem kabs (H : FVec Ideal S256x512 .f32) (i : S256x512.Idx) : absf H i = max (H i : EReal) (-(H i : EReal)) := rfl

section
variable (XB : Vec Ideal S256x4096 .bf16) (x7 : Vec Ideal S4096x7168 .fp8e4m3) (x8 x9 : Vec Ideal S1x7168 .f32)

/-- The running maximum before trip `n` bounds the magnitudes of the trips before, and is bounded by what bounds them. -/
theorem HM_spec (r : Fin 256) (n : ℕ) (hn : n ≤ 14) :
    (∀ f : Fin 7168, f.val < 512 * n → max (hk XB x7 x8 x9 r f) (-(hk XB x7 x8 x9 r f)) ≤ (HM XB x7 x8 x9 n (ix2 r (⟨f.val % 128, by omega⟩ : Fin 128)) : EReal))
      ∧ ∀ (B : EReal) (l : Fin 128), 0 ≤ B → (∀ f : Fin 7168, f.val < 512 * n → max (hk XB x7 x8 x9 r f) (-(hk XB x7 x8 x9 r f)) ≤ B) →
          (HM XB x7 x8 x9 n (ix2 r l) : EReal) ≤ B := by
  induction n with
  | zero =>
    refine ⟨fun f hf => absurd hf (by omega), fun B l hB _ => ?_⟩
    have e : (HM XB x7 x8 x9 0 (ix2 r l) : EReal) = 0 := by
      show (k0_pay1226 (F := Ideal) (ix2 r l) : EReal) = 0
      unfold k0_pay1226
      rw [shapeCast_self]
      exact ofBits_zero
    rw [e]; exact hB
  | succ n ih =>
    obtain ⟨ih1, ih2⟩ := ih (by omega)
    have hk' : n < k0_t1_loop.trips := by rw [trips_eq]; omega
    have eS : ∀ l : Fin 128, HM XB x7 x8 x9 (n + 1) (ix2 r l) = maxStep (hTile XB x7 x8 x9 ⟨n, hk'⟩) (HM XB x7 x8 x9 n) (ix2 r l) := by
      intro l
      show (if h : n < k0_t1_loop.trips then maxStep (hTile XB x7 x8 x9 ⟨n, h⟩) (HM XB x7 x8 x9 n) else HM XB x7 x8 x9 n) (ix2 r l) = _
      rw [dif_pos hk']
    have eA : ∀ (j : Fin 512) (f : Fin 7168), f.val = 512 * n + j.val →
        absf (hTile XB x7 x8 x9 ⟨n, hk'⟩) (ix2 r j) = max (hk XB x7 x8 x9 r f) (-(hk XB x7 x8 x9 r f)) := by
      intro j f hf
      rw [kabs, hTile_apply XB x7 x8 x9 ⟨n, hk'⟩ r j f hf]
    constructor
    · intro f hf
      rw [eS, maxStep_apply]
      by_cases h : f.val < 512 * n
      · exact (ih1 f h).trans ((le_max_left _ _).trans ((le_max_left _ _).trans ((le_max_left _ _).trans (le_max_left _ _))))
      · have hj : f.val - 512 * n < 512 := by omega
        have key := eA ⟨f.val - 512 * n, hj⟩ f (by dsimp only; omega)
        rw [← key]
        obtain h | h | h | h : f.val - 512 * n = f.val % 128 ∨ f.val - 512 * n = 128 + f.val % 128 ∨ f.val - 512 * n = 256 + f.val % 128 ∨ f.val - 512 * n = 384 + f.val % 128 := by omega
        · rw [show (⟨f.val - 512 * n, hj⟩ : Fin 512) = ⟨f.val % 128, by omega⟩ from Fin.ext h]
          exact (le_max_right _ _).trans ((le_max_left _ _).trans ((le_max_left _ _).trans (le_max_left _ _)))
        · rw [show (⟨f.val - 512 * n, hj⟩ : Fin 512) = ⟨128 + f.val % 128, by omega⟩ from Fin.ext h]
          exact (le_max_right _ _).trans ((le_max_left _ _).trans (le_max_left _ _))
        · rw [show (⟨f.val - 512 * n, hj⟩ : Fin 512) = ⟨256 + f.val % 128, by omega⟩ from Fin.ext h]
          exact (le_max_right _ _).trans (le_max_left _ _)
        · rw [show (⟨f.val - 512 * n, hj⟩ : Fin 512) = ⟨384 + f.val % 128, by omega⟩ from Fin.ext h]
          exact le_max_right _ _
    · intro B l hB hb
      rw [eS, maxStep_apply]
      have hl : l.val < 128 := l.isLt
      have p : ∀ j : Fin 512, absf (hTile XB x7 x8 x9 ⟨n, hk'⟩) (ix2 r j) ≤ B := by
        intro j
        have hj : j.val < 512 := j.isLt
        rw [eA j ⟨512 * n + j.val, by omega⟩ rfl]
        exact hb _ (by dsimp only; omega)
      exact max_le (max_le (max_le (max_le (ih2 B l hB fun f hf => hb f (by omega)) (p _)) (p _)) (p _)) (p _)

/-- The largest of the running maxima of a row is the largest magnitude of the row. -/
theorem rowmax (r : Fin 256) :
    Finset.univ.fold max (K 0xFF800000#32) (fun l : Fin 128 => (HM XB x7 x8 x9 14 (ix2 r l) : EReal)) = amax (hk XB x7 x8 x9 r) := by
  obtain ⟨h1, h2⟩ := HM_spec XB x7 x8 x9 r 14 le_rfl
  refine amax_of _ _ (fun f => (h1 f (by omega)).trans (le_fold Finset.univ _ (fun l : Fin 128 => (HM XB x7 x8 x9 14 (ix2 r l) : EReal)) _ (Finset.mem_univ _))) ?_
  intro B hB hb
  refine (Finset.fold_max_le (b := K 0xFF800000#32) B).mpr ⟨by rw [K_neg_inf]; exact bot_le, fun l _ => h2 B l hB fun f _ => hb f⟩

theorem INV_apply (r : Fin 256) : INVv (HM XB x7 x8 x9 14) (ix2 r (0 : Fin 1)) = inv (amax (hk XB x7 x8 x9 r)) := by
  rw [(kexp_apply _ _ rfl _).1, pay1230_apply, rowmax, kinvA _ (amax_nonneg _)]

theorem SC_apply (r : Fin 256) : SCv (HM XB x7 x8 x9 14) (ix2 r (0 : Fin 1)) = scl (amax (hk XB x7 x8 x9 r)) := by
  rw [(kexp_apply _ _ rfl _).2, pay1230_apply, rowmax, kscale_eq _ (amax_nonneg _), ← scl_eq]

end

/-! ### The second contraction -/

section
variable (iv sc : FVec Ideal S256x1 .f32) (H : Vec Ideal S256x7168 .f32) (W : Vec Ideal S7168x128 .fp8e4m3)

/-- One product of the second contraction: code times weight, nothing past the end. -/
def gk (r : Fin 256) (c : Fin 128) (i : ℕ) : EReal :=
  if h : i < 7168 then Cert.Math.code (H (ix2 r (⟨i, h⟩ : Fin 7168))) (iv (ix2 r (0 : Fin 1))) * (W (ix2 (⟨i, h⟩ : Fin 7168) c) : EReal) else 0

theorem pay1242_apply (X : Vec Ideal S256x512 .f32) (r : Fin 256) (k : Fin 512) :
    k0_pay1242 iv X (ix2 r k) = Cert.Math.code (X (ix2 r k)) (iv (ix2 r (0 : Fin 1))) := by
  unfold k0_pay1242
  try dsimp only
  rw [ktower_code, kbc_apply]

theorem Ht_apply (j : ℕ) (hj : j < 14) (r : Fin 256) (k : Fin 512) : Ht H j hj (ix2 r k) = H (ix2 r (⟨512 * j + k.val, by omega⟩ : Fin 7168)) := by
  unfold Ht View.ld
  refine congrArg H (funext fun a => ?_)
  match a with
  | ⟨0, _⟩ => exact Fin.ext (show 0 + 1 * r.val = r.val by omega)
  | ⟨1, _⟩ => exact Fin.ext (show 512 * j + 1 * k.val = 512 * j + k.val by omega)

theorem Wt_apply (j : ℕ) (hj : j < 14) (k : Fin 512) (c : Fin 128) : Wt W j hj (ix2 k c) = W (ix2 (⟨512 * j + k.val, by omega⟩ : Fin 7168) c) := by
  unfold Wt View.ld
  refine congrArg W (funext fun a => ?_)
  match a with
  | ⟨0, _⟩ => exact Fin.ext (show 512 * j + 1 * k.val = 512 * j + k.val by omega)
  | ⟨1, _⟩ => exact Fin.ext (show 0 + 1 * c.val = c.val by omega)

theorem tile_sum (j : ℕ) (hj : j < 14) (r : Fin 256) (c : Fin 128) :
    (∑ k : Fin 512, (k0_pay1242 iv (Ht H j hj) (ix2 r k) : EReal) * Wt W j hj (ix2 k c)) = ∑ i ∈ Finset.range 512, gk iv H W r c (512 * j + i) := by
  rw [Finset.sum_range]
  refine Finset.sum_congr rfl fun k _ => ?_
  rw [pay1242_apply, Ht_apply, Wt_apply]
  unfold gk
  rw [dif_pos]

theorem acc_step (A : FVec Ideal S256x256 .f32) (C0 : FVec Ideal S256x512 .fp8e4m3) (W0 W1 : Vec Ideal S512x128 .fp8e4m3) (H1 : Vec Ideal S256x512 .f32)
    (r : Fin 256) (c : Fin 128) :
    k0_pay1244 iv A C0 W0 H1 W1 (ix2 r (⟨c.val, by omega⟩ : Fin 256))
      = (A (ix2 r (⟨c.val, by omega⟩ : Fin 256)) + ∑ k : Fin 512, (C0 (ix2 r k) : EReal) * W0 (ix2 k c)) + ∑ k : Fin 512, (k0_pay1242 iv H1 (ix2 r k) : EReal) * W1 (ix2 k c) := by
  unfold k0_pay1244
  generalize k0_pay1242 iv H1 = C1
  try dsimp only
  exact congrArg₂ (fun u v : EReal => u + v) (congrArg (fun u : EReal => A (ix2 r (⟨c.val, by omega⟩ : Fin 256)) + u) (kdot2_apply _ _ _ _ _)) (kdot2_apply _ _ _ _ _)

theorem accV_apply (r : Fin 256) (c : Fin 128) (n : ℕ) (hn : n ≤ 7) :
    (accV iv H W n (ix2 r (⟨c.val, by omega⟩ : Fin 256)) : EReal) = ∑ i ∈ Finset.range (1024 * n), gk iv H W r c i := by
  induction n with
  | zero =>
    show (k0_pay1238 (F := Ideal) (ix2 r (⟨c.val, by omega⟩ : Fin 256)) : EReal) = _
    unfold k0_pay1238
    refine Eq.trans (b := (0 : EReal)) ofBits_zero (by simp)
  | succ n ih =>
    have h : n < 7 := by omega
    have e : accV iv H W (n + 1) = k0_pay1244 iv (accV iv H W n) (k0_pay1242 iv (Ht H (2 * n) (by omega))) (Wt W (2 * n) (by omega)) (Ht H (2 * n + 1) (by omega)) (Wt W (2 * n + 1) (by omega)) := by
      show (if h : n < 7 then k0_pay1244 iv (accV iv H W n) (k0_pay1242 iv (Ht H (2 * n) (by omega))) (Wt W (2 * n) (by omega)) (Ht H (2 * n + 1) (by omega)) (Wt W (2 * n + 1) (by omega)) else accV iv H W n) = _
      rw [dif_pos h]
    rw [e, acc_step, ih (by omega), tile_sum, tile_sum, show 1024 * (n + 1) = 1024 * n + 512 + 512 by omega, Finset.sum_range_add, Finset.sum_range_add,
      show 512 * (2 * n) = 1024 * n by omega, show 512 * (2 * n + 1) = 1024 * n + 512 by omega]

theorem acc_all (r : Fin 256) (c : Fin 128) :
    (accV iv H W 7 (ix2 r (⟨c.val, by omega⟩ : Fin 256)) : EReal)
      = ∑ f : Fin 7168, Cert.Math.code (H (ix2 r f)) (iv (ix2 r (0 : Fin 1))) * (W (ix2 f c) : EReal) := by
  rw [accV_apply _ _ _ _ _ 7 le_rfl, show 1024 * 7 = 7168 by norm_num, Finset.sum_range]
  refine Finset.sum_congr rfl fun f _ => ?_
  unfold gk
  rw [dif_pos f.isLt]

theorem CKv_apply (acc : FVec Ideal S256x256 .f32) (x11 x12 : Vec Ideal S1x128 .f32) (r : Fin 256) (c : Fin 128) :
    CKv sc acc x11 x12 (ix2 r c)
      = (acc (ix2 r (⟨c.val, by omega⟩ : Fin 256)) : EReal) * sc (ix2 r (0 : Fin 1)) * x11 (ix2 (0 : Fin 1) c) + x12 (ix2 (0 : Fin 1) c) := by
  unfold CKv
  exact congrArg₂ (fun u v : EReal => u + v) (congrArg₂ (fun u v : EReal => u * v) (congrArg₂ (fun u v : EReal => u * v) (kslice_apply _ _ _) (kbc2_apply _ _ _)) (krow2_apply _ _ _)) (krow2_apply _ _ _)

end

section
variable (XB : Vec Ideal S256x4096 .bf16) (x7 : Vec Ideal S4096x7168 .fp8e4m3) (x8 x9 : Vec Ideal S1x7168 .f32)

/-- The second layer's row off the packed block. -/
theorem CK_apply (x10 : Vec Ideal S7168x128 .fp8e4m3) (x11 x12 : Vec Ideal S1x128 .f32) (r : Fin 256) (c : Fin 128) :
    (CKv (SCv (HM XB x7 x8 x9 14)) (accV (INVv (HM XB x7 x8 x9 14)) (HF XB x7 x8 x9) x10 7) x11 x12 (ix2 r c) : EReal)
      = row2 (hk XB x7 x8 x9 r) (fun f c => x10 (ix2 f c)) (fun c => x11 (ix2 (0 : Fin 1) c)) (fun c => x12 (ix2 (0 : Fin 1) c)) c := by
  rw [CKv_apply, acc_all, SC_apply, INV_apply]
  simp only [HF_apply]
  rfl

/-- The codes of the hidden row off the packed block. -/
theorem HC_apply (n : Fin 32) (h : Fin 8) (f : Fin 7168) :
    (HCv (INVv (HM XB x7 x8 x9 14)) (HF XB x7 x8 x9) (ix4 (0 : Fin 1) n h f) : EReal)
      = Cert.Math.code (hk XB x7 x8 x9 ⟨n.val * 8 + h.val, by omega⟩ f) (inv (amax (hk XB x7 x8 x9 ⟨n.val * 8 + h.val, by omega⟩))) := by
  show hq (INVv (HM XB x7 x8 x9 14)) (HF XB x7 x8 x9) (⟨n.val * 8 + h.val, by omega⟩ : Fin 256) f = _
  unfold hq
  rw [HF_apply, INV_apply]
  rfl

end

end Cert.KernelIdeal.Gen
end
-- ==== Proof.Hand.Blk.lean ====
/- The blocks a point of the grid reads, in terms of the arguments, and the packed block in terms of them. -/
module

public import proofs.«01_k».proof.Proof.Math.Row
public import proofs.«01_k».proof.Proof.Hand.Xb
public import proofs.«01_k».proof.Proof.Gen.KernelIdeal.Frame
public import Idealize.ShloMosaic.Lib.Pointwise
public import Idealize.ShloMosaic.Lib.Pipeline.ValueKit.Geometry

@[expose] public section

set_option maxRecDepth 16384
set_option maxHeartbeats 1000000

noncomputable section

namespace Cert.KernelIdeal.Gen

open Idealize.ShloMosaic Idealize.ShloMosaic.TcCoe Idealize.ShloMosaic.Tactic
open Cert.Math

/-! ### The block indices, point by point -/

theorem ix_0 : ∀ t : Fin cfg0.N, win0_0.index t = ![t.val / 16, t.val % 16, 0, 0] := (by decide +kernel : ∀ t : Fin grid0.N, _)
theorem ix_1 : ∀ t : Fin cfg0.N, win0_1.index t = ![t.val / 16, 0, t.val % 16] := (by decide +kernel : ∀ t : Fin grid0.N, _)
theorem ix_2 : ∀ t : Fin cfg0.N, win0_2.index t = ![t.val / 16, 32 * (t.val % 16) - 1, 0, 0] := (by decide +kernel : ∀ t : Fin grid0.N, _)
theorem ix_3 : ∀ t : Fin cfg0.N, win0_3.index t = ![t.val / 16, 0, 4 * (t.val % 16) - 1] := (by decide +kernel : ∀ t : Fin grid0.N, _)
theorem ix_4 : ∀ t : Fin cfg0.N, win0_4.index t = ![t.val / 16, 0, 0, 0] := (by decide +kernel : ∀ t : Fin grid0.N, _)
theorem ix_5 : ∀ t : Fin cfg0.N, win0_5.index t = ![t.val / 16, 0, 0] := (by decide +kernel : ∀ t : Fin grid0.N, _)
theorem ix_6 : ∀ t : Fin cfg0.N, win0_6.index t = ![0, 0] := (by decide +kernel : ∀ t : Fin grid0.N, _)
theorem ix_7 : ∀ t : Fin cfg0.N, win0_7.index t = ![0, 0] := (by decide +kernel : ∀ t : Fin grid0.N, _)
theorem ix_8 : ∀ t : Fin cfg0.N, win0_8.index t = ![0, 0] := (by decide +kernel : ∀ t : Fin grid0.N, _)
theorem ix_9 : ∀ t : Fin cfg0.N, win0_9.index t = ![0, 0] := (by decide +kernel : ∀ t : Fin grid0.N, _)
theorem ix_10 : ∀ t : Fin cfg0.N, win0_10.index t = ![0, 0] := (by decide +kernel : ∀ t : Fin grid0.N, _)
theorem ix_11 : ∀ t : Fin cfg0.N, win0_11.index t = ![0, 0] := (by decide +kernel : ∀ t : Fin grid0.N, _)
theorem ix_12 : ∀ t : Fin cfg0.N, win0_12.index t = ![0, 0] := (by decide +kernel : ∀ t : Fin grid0.N, _)
theorem ix_13 : ∀ t : Fin cfg0.N, win0_13.index t = ![t.val / 16, t.val % 16, 0, 0] := (by decide +kernel : ∀ t : Fin grid0.N, _)
theorem ix_14 : ∀ t : Fin cfg0.N, win0_14.index t = ![t.val / 16, 0, t.val % 16 / 4] := (by decide +kernel : ∀ t : Fin grid0.N, _)
theorem ix_15 : ∀ t : Fin cfg0.N, win0_15.index t = ![t.val / 16, t.val % 16, 0, 0] := (by decide +kernel : ∀ t : Fin grid0.N, _)
theorem ix_16 : ∀ t : Fin cfg0.N, win0_16.index t = ![t.val / 16, 0, t.val % 16 / 4] := (by decide +kernel : ∀ t : Fin grid0.N, _)
theorem co_1 : ∀ t : Fin cfg0.N, ((grid0.coords t) 1).val = t.val % 16 := (by decide +kernel : ∀ t : Fin grid0.N, _)
theorem lt64 (t : Fin cfg0.N) : t.val < 64 := t.isLt

variable (m : (ℓ : Loc nD τ sig) → Buf (Elt Ideal) ℓ) (c : Dev nD)

/-! ### The arguments, and the host's reordered copies of them -/

abbrev a0 : Vec Ideal S4x8192x8x128 .fp8e4m3 := m ((c : Thread nD τ).loc main_arg0)
abbrev a1 : Vec Ideal S4x8192x8 .f32 := m ((c : Thread nD τ).loc main_arg1)
abbrev a2 : Vec Ideal S4x16x8x128 .fp8e4m3 := m ((c : Thread nD τ).loc main_arg2)
abbrev a3 : Vec Ideal S4x16x8 .f32 := m ((c : Thread nD τ).loc main_arg3)
abbrev a4 : Vec Ideal S32x128 .f32 := m ((c : Thread nD τ).loc main_arg4)
abbrev a5 : Vec Ideal S32x128x7168 .fp8e4m3 := m ((c : Thread nD τ).loc main_arg5)
abbrev a6 : Vec Ideal S7168 .f32 := m ((c : Thread nD τ).loc main_arg6)
abbrev a7 : Vec Ideal S7168 .f32 := m ((c : Thread nD τ).loc main_arg7)
abbrev a8 : Vec Ideal S7168x128 .fp8e4m3 := m ((c : Thread nD τ).loc main_arg8)
abbrev a9 : Vec Ideal S128 .f32 := m ((c : Thread nD τ).loc main_arg9)
abbrev a10 : Vec Ideal S128 .f32 := m ((c : Thread nD τ).loc main_arg10)

theorem Vv0 : (V m c main_v0 : Vec Ideal S4x8x8192 .f32) = transpose S4x8x8192 [0, 2, 1] (a1 m c) transposes_S4x8192x8_S4x8x8192_0_2_1 := by
  show StableHlo.after hostOps0 _ (Proc.devRef .tc main_v0) = _
  after_results
theorem Vv1 : (V m c main_v1 : Vec Ideal S4x8x16 .f32) = transpose S4x8x16 [0, 2, 1] (a3 m c) transposes_S4x16x8_S4x8x16_0_2_1 := by
  show StableHlo.after hostOps0 _ (Proc.devRef .tc main_v1) = _
  after_results
theorem Vv2 : (V m c main_v2 : Vec Ideal S4096x7168 .fp8e4m3) = shapeCast S4096x7168 (a5 m c) shapeCasts_S32x128x7168_S4096x7168 := by
  show StableHlo.after hostOps0 _ (Proc.devRef .tc main_v2) = _
  after_results
  rfl
theorem Vv3 : (V m c main_v3 : Vec Ideal S1x7168 .f32) = shapeCast S1x7168 (a6 m c) shapeCasts_S7168_S1x7168 := by
  show StableHlo.after hostOps0 _ (Proc.devRef .tc main_v3) = _
  after_results
  rfl
theorem Vv4 : (V m c main_v4 : Vec Ideal S1x7168 .f32) = shapeCast S1x7168 (a7 m c) shapeCasts_S7168_S1x7168 := by
  show StableHlo.after hostOps0 _ (Proc.devRef .tc main_v4) = _
  after_results
  rfl
theorem Vv5 : (V m c main_v5 : Vec Ideal S1x128 .f32) = shapeCast S1x128 (a9 m c) shapeCasts_S128_S1x128 := by
  show StableHlo.after hostOps0 _ (Proc.devRef .tc main_v5) = _
  after_results
  rfl
theorem Vv6 : (V m c main_v6 : Vec Ideal S1x128 .f32) = shapeCast S1x128 (a10 m c) shapeCasts_S128_S1x128 := by
  show StableHlo.after hostOps0 _ (Proc.devRef .tc main_v6) = _
  after_results
  rfl

/-! ### The reordered copies at an index -/

theorem hv0 (v : Vec Ideal S4x8192x8 .f32) (b : Fin 4) (h : Fin 8) (s : Fin 8192) :
    transpose (α := Ideal .f32) S4x8x8192 [0, 2, 1] v transposes_S4x8192x8_S4x8x8192_0_2_1 (ix3 b h s) = v (ix3 b s h) := by pointwise []
theorem hv1 (v : Vec Ideal S4x16x8 .f32) (b : Fin 4) (h : Fin 8) (s : Fin 16) :
    transpose (α := Ideal .f32) S4x8x16 [0, 2, 1] v transposes_S4x16x8_S4x8x16_0_2_1 (ix3 b h s) = v (ix3 b s h) := by pointwise []
theorem hv2 (v : Vec Ideal S32x128x7168 .fp8e4m3) (k : Fin 4096) (f : Fin 7168) :
    shapeCast (α := Ideal .fp8e4m3) S4096x7168 v shapeCasts_S32x128x7168_S4096x7168 (ix2 k f)
      = v (ix3 (⟨k.val / 128, by omega⟩ : Fin 32) (⟨k.val % 128, by omega⟩ : Fin 128) f) := by pointwise []
theorem hv3 (v : Vec Ideal S7168 .f32) (f : Fin 7168) :
    shapeCast (α := Ideal .f32) S1x7168 v shapeCasts_S7168_S1x7168 (ix2 (0 : Fin 1) f) = v (ix1 f) := by pointwise []
theorem hv5 (v : Vec Ideal S128 .f32) (f : Fin 128) :
    shapeCast (α := Ideal .f32) S1x128 v shapeCasts_S128_S1x128 (ix2 (0 : Fin 1) f) = v (ix1 f) := by pointwise []

/-! ### The payloads that read a token -/

theorem pay10_apply (v : Vec Ideal S1x1x8x128 .fp8e4m3) (w : Vec Ideal S1x8x1 .f32) (h : Fin 8) (d : Fin 128) :
    (k0_pay10 v w (ix2 h d) : EReal) = (v (ix4 (0 : Fin 1) (0 : Fin 1) h d) : EReal) * w (ix3 (0 : Fin 1) h (0 : Fin 1)) := by
  pointwise [k0_pay10]

theorem pay9_apply (i : grid0.Coords) (v v' : Vec Ideal S1x1x8x128 .fp8e4m3) (w w' : Vec Ideal S1x8x1 .f32) (h : Fin 8) (d : Fin 128) :
    (k0_pay9 i v w v' w' (ix2 h d) : EReal) = if (i 1).val = 0 then (v' (ix4 (0 : Fin 1) (0 : Fin 1) h d) : EReal) * w' (ix3 (0 : Fin 1) h (0 : Fin 1))
      else (v (ix4 (0 : Fin 1) (0 : Fin 1) h d) : EReal) * w (ix3 (0 : Fin 1) h (0 : Fin 1)) := by
  have e : k0_pay9 i v w v' w' = if (i 1).val = 0 then k0_pay10 v' w' else k0_pay10 v w := by
    have hc : Scalar.cmpi .eq (BitVec.ofNat 32 (i 1).val) 0#32 = if (i 1).val = 0 then 1#1 else 0#1 := by
      have hq : ∀ q : Fin 16, Scalar.cmpi .eq (BitVec.ofNat 32 q.val) 0#32 = if q.val = 0 then 1#1 else 0#1 := by decide
      exact hq (i 1)
    unfold k0_pay9 k0_pay10
    try dsimp only
    rw [hc]
    split <;> rfl
  rw [e]
  split <;> exact pay10_apply _ _ _ _

/-! ### The blocks at an index -/

theorem b_0 (t : Fin cfg0.N) (s : Fin 512) (h : Fin 8) (d : Fin 128) :
    (iblk m c 0 t : Vec Ideal S1x512x8x128 .fp8e4m3) (ix4 (0 : Fin 1) s h d)
      = a0 m c (ix4 (⟨t.val / 16, by have := lt64 t; omega⟩ : Fin 4) (⟨512 * (t.val % 16) + s.val, by omega⟩ : Fin 8192) h d) := by
  refine Eq.trans (b := V m c main_arg0 _) rfl ((congrFun (V_main_arg0 m c) _).trans ?_)
  refine congrArg (a0 m c) ?_
  blk_ext [ix_0]
theorem b_1 (t : Fin cfg0.N) (h : Fin 8) (s : Fin 512) :
    (iblk m c 1 t : Vec Ideal S1x8x512 .f32) (ix3 (0 : Fin 1) h s)
      = a1 m c (ix3 (⟨t.val / 16, by have := lt64 t; omega⟩ : Fin 4) (⟨512 * (t.val % 16) + s.val, by omega⟩ : Fin 8192) h) := by
  refine Eq.trans (b := V m c main_v0 _) rfl ((congrFun (Vv0 m c) _).trans (Eq.trans ?_ (hv0 _ _ _ _)))
  refine congrArg _ ?_
  blk_ext [ix_1]
theorem b_2 (t : Fin cfg0.N) (ht : 0 < t.val % 16) (s : Fin 16) (h : Fin 8) (d : Fin 128) :
    (iblk m c 2 t : Vec Ideal S1x16x8x128 .fp8e4m3) (ix4 (0 : Fin 1) s h d)
      = a0 m c (ix4 (⟨t.val / 16, by have := lt64 t; omega⟩ : Fin 4) (⟨512 * (t.val % 16) - 16 + s.val, by omega⟩ : Fin 8192) h d) := by
  refine Eq.trans (b := V m c main_arg0 _) rfl ((congrFun (V_main_arg0 m c) _).trans ?_)
  refine congrArg (a0 m c) ?_
  blk_ext [ix_2]
theorem b_3 (t : Fin cfg0.N) (ht : 0 < t.val % 16) (h : Fin 8) (s : Fin 128) :
    (iblk m c 3 t : Vec Ideal S1x8x128 .f32) (ix3 (0 : Fin 1) h s)
      = a1 m c (ix3 (⟨t.val / 16, by have := lt64 t; omega⟩ : Fin 4) (⟨512 * (t.val % 16) - 128 + s.val, by omega⟩ : Fin 8192) h) := by
  refine Eq.trans (b := V m c main_v0 _) rfl ((congrFun (Vv0 m c) _).trans (Eq.trans ?_ (hv0 _ _ _ _)))
  refine congrArg _ ?_
  blk_ext [ix_3]
theorem b_4 (t : Fin cfg0.N) (s : Fin 16) (h : Fin 8) (d : Fin 128) :
    (iblk m c 4 t : Vec Ideal S1x16x8x128 .fp8e4m3) (ix4 (0 : Fin 1) s h d) = a2 m c (ix4 (⟨t.val / 16, by have := lt64 t; omega⟩ : Fin 4) s h d) := by
  refine Eq.trans (b := V m c main_arg2 _) rfl ((congrFun (V_main_arg2 m c) _).trans ?_)
  refine congrArg (a2 m c) ?_
  blk_ext [ix_4]
theorem b_5 (t : Fin cfg0.N) (h : Fin 8) (s : Fin 16) :
    (iblk m c 5 t : Vec Ideal S1x8x16 .f32) (ix3 (0 : Fin 1) h s) = a3 m c (ix3 (⟨t.val / 16, by have := lt64 t; omega⟩ : Fin 4) s h) := by
  refine Eq.trans (b := V m c main_v1 _) rfl ((congrFun (Vv1 m c) _).trans (Eq.trans ?_ (hv1 _ _ _ _)))
  refine congrArg _ ?_
  blk_ext [ix_5]
theorem b_6 (t : Fin cfg0.N) (p : Fin 32) (d : Fin 128) : (iblk m c 6 t : Vec Ideal S32x128 .f32) (ix2 p d) = a4 m c (ix2 p d) := by
  refine Eq.trans (b := V m c main_arg4 _) rfl ((congrFun (V_main_arg4 m c) _).trans ?_)
  refine congrArg (a4 m c) ?_
  blk_ext [ix_6]
theorem b_7 (t : Fin cfg0.N) (k : Fin 4096) (f : Fin 7168) : (iblk m c 7 t : Vec Ideal S4096x7168 .fp8e4m3) (ix2 k f)
    = a5 m c (ix3 (⟨k.val / 128, by omega⟩ : Fin 32) (⟨k.val % 128, by omega⟩ : Fin 128) f) := by
  refine Eq.trans (b := V m c main_v2 _) rfl ((congrFun (Vv2 m c) _).trans (Eq.trans ?_ (hv2 _ _ _)))
  refine congrArg _ ?_
  blk_ext [ix_7]
theorem b_8 (t : Fin cfg0.N) (f : Fin 7168) : (iblk m c 8 t : Vec Ideal S1x7168 .f32) (ix2 (0 : Fin 1) f) = a6 m c (ix1 f) := by
  refine Eq.trans (b := V m c main_v3 _) rfl ((congrFun (Vv3 m c) _).trans (Eq.trans ?_ (hv3 _ _)))
  refine congrArg _ ?_
  blk_ext [ix_8]
theorem b_9 (t : Fin cfg0.N) (f : Fin 7168) : (iblk m c 9 t : Vec Ideal S1x7168 .f32) (ix2 (0 : Fin 1) f) = a7 m c (ix1 f) := by
  refine Eq.trans (b := V m c main_v4 _) rfl ((congrFun (Vv4 m c) _).trans (Eq.trans ?_ (hv3 _ _)))
  refine congrArg _ ?_
  blk_ext [ix_9]
theorem b_10 (t : Fin cfg0.N) (f : Fin 7168) (k : Fin 128) : (iblk m c 10 t : Vec Ideal S7168x128 .fp8e4m3) (ix2 f k) = a8 m c (ix2 f k) := by
  refine Eq.trans (b := V m c main_arg8 _) rfl ((congrFun (V_main_arg8 m c) _).trans ?_)
  refine congrArg (a8 m c) ?_
  blk_ext [ix_10]
theorem b_11 (t : Fin cfg0.N) (k : Fin 128) : (iblk m c 11 t : Vec Ideal S1x128 .f32) (ix2 (0 : Fin 1) k) = a9 m c (ix1 k) := by
  refine Eq.trans (b := V m c main_v5 _) rfl ((congrFun (Vv5 m c) _).trans (Eq.trans ?_ (hv5 _ _)))
  refine congrArg _ ?_
  blk_ext [ix_11]
theorem b_12 (t : Fin cfg0.N) (k : Fin 128) : (iblk m c 12 t : Vec Ideal S1x128 .f32) (ix2 (0 : Fin 1) k) = a10 m c (ix1 k) := by
  refine Eq.trans (b := V m c main_v6 _) rfl ((congrFun (Vv6 m c) _).trans (Eq.trans ?_ (hv5 _ _)))
  refine congrArg _ ?_
  blk_ext [ix_12]

/-! ### The packed block -/

/-- A token of the chunk, dequantised; a token of the previous chunk. -/
def tkn (b : Fin 4) (h : Fin 8) (d : Fin 128) (s : Fin 8192) : EReal := (a0 m c (ix4 b s h d) : EReal) * a1 m c (ix3 b s h)
def ptk (b : Fin 4) (h : Fin 8) (d : Fin 128) (s : Fin 16) : EReal := (a2 m c (ix4 b s h d) : EReal) * a3 m c (ix3 b s h)

theorem tok_apply (t : Fin cfg0.N) (s : ℕ) (hs : s < 512) (h : Fin 8) (d : Fin 128) :
    (tok (iblk m c 0 t) (iblk m c 1 t) s hs (ix2 h d) : EReal)
      = tkn m c ⟨t.val / 16, by have := lt64 t; omega⟩ h d ⟨512 * (t.val % 16) + s, by omega⟩ := by
  unfold tok
  rw [pay10_apply]
  refine congrArg₂ (fun u v : EReal => u * v) (Eq.trans (congrArg (iblk m c 0 t) ?_) (b_0 m c t ⟨s, hs⟩ h d)) (Eq.trans (congrArg (iblk m c 1 t) ?_) (b_1 m c t h ⟨s, hs⟩))
  · funext a
    match a with
    | ⟨0, _⟩ => exact Fin.ext rfl
    | ⟨1, _⟩ => exact Fin.ext (show s + 1 * 0 = s by omega)
    | ⟨2, _⟩ => exact Fin.ext (show 0 + 1 * h.val = h.val by omega)
    | ⟨3, _⟩ => exact Fin.ext (show 0 + 1 * d.val = d.val by omega)
  · funext a
    match a with
    | ⟨0, _⟩ => exact Fin.ext rfl
    | ⟨1, _⟩ => exact Fin.ext (show 0 + 1 * h.val = h.val by omega)
    | ⟨2, _⟩ => exact Fin.ext (show s + 1 * 0 = s by omega)

theorem firstv_apply (t : Fin cfg0.N) (j : ℕ) (hj : j < 16) (h : Fin 8) (d : Fin 128) :
    (firstv (grid0.coords t) (iblk m c 2 t) (iblk m c 3 t) (iblk m c 4 t) (iblk m c 5 t) j (112 + j) hj (by omega) (ix2 h d) : EReal)
      = if h0 : t.val % 16 = 0 then ptk m c ⟨t.val / 16, by have := lt64 t; omega⟩ h d ⟨j, hj⟩
        else tkn m c ⟨t.val / 16, by have := lt64 t; omega⟩ h d ⟨512 * (t.val % 16) + j - 16, by omega⟩ := by
  unfold firstv
  rw [pay9_apply, co_1]
  by_cases h0 : t.val % 16 = 0
  · rw [if_pos h0, dif_pos h0]
    refine congrArg₂ (fun u v : EReal => u * v) (Eq.trans (congrArg (iblk m c 4 t) ?_) (b_4 m c t ⟨j, hj⟩ h d)) (Eq.trans (congrArg (iblk m c 5 t) ?_) (b_5 m c t h ⟨j, hj⟩))
    · funext a
      match a with
      | ⟨0, _⟩ => exact Fin.ext rfl
      | ⟨1, _⟩ => exact Fin.ext (show j + 1 * 0 = j by omega)
      | ⟨2, _⟩ => exact Fin.ext (show 0 + 1 * h.val = h.val by omega)
      | ⟨3, _⟩ => exact Fin.ext (show 0 + 1 * d.val = d.val by omega)
    · funext a
      match a with
      | ⟨0, _⟩ => exact Fin.ext rfl
      | ⟨1, _⟩ => exact Fin.ext (show 0 + 1 * h.val = h.val by omega)
      | ⟨2, _⟩ => exact Fin.ext (show j + 1 * 0 = j by omega)
  · rw [if_neg h0, dif_neg h0]
    have hp : 0 < t.val % 16 := by omega
    unfold tkn
    refine congrArg₂ (fun u v : EReal => u * v) (Eq.trans (Eq.trans (congrArg (iblk m c 2 t) ?_) (b_2 m c t hp ⟨j, hj⟩ h d)) ?_)
      (Eq.trans (Eq.trans (congrArg (iblk m c 3 t) ?_) (b_3 m c t hp h ⟨112 + j, by omega⟩)) ?_)
    · funext a
      match a with
      | ⟨0, _⟩ => exact Fin.ext rfl
      | ⟨1, _⟩ => exact Fin.ext (show j + 1 * 0 = j by omega)
      | ⟨2, _⟩ => exact Fin.ext (show 0 + 1 * h.val = h.val by omega)
      | ⟨3, _⟩ => exact Fin.ext (show 0 + 1 * d.val = d.val by omega)
    · refine congrArg (fun s => a0 m c (ix4 _ s h d)) (Fin.ext ?_)
      show 512 * (t.val % 16) - 16 + j = 512 * (t.val % 16) + j - 16
      omega
    · funext a
      match a with
      | ⟨0, _⟩ => exact Fin.ext rfl
      | ⟨1, _⟩ => exact Fin.ext (show 0 + 1 * h.val = h.val by omega)
      | ⟨2, _⟩ => exact Fin.ext (show 112 + j + 1 * 0 = 112 + j by omega)
    · refine congrArg (fun s => a1 m c (ix3 _ s h)) (Fin.ext ?_)
      show 512 * (t.val % 16) - 128 + (112 + j) = 512 * (t.val % 16) + j - 16
      omega

/-- The packed block: the window's token plus its position's row. -/
theorem XB_apply (t : Fin cfg0.N) (n : Fin 32) (h : Fin 8) (k : Fin 4096) :
    (XB (grid0.coords t) (iblk m c 0 t) (iblk m c 1 t) (iblk m c 2 t) (iblk m c 3 t) (iblk m c 4 t) (iblk m c 5 t) (iblk m c 6 t)
        (ix2 (⟨n.val * 8 + h.val, by omega⟩ : Fin 256) k) : EReal)
      = winE (tkn m c ⟨t.val / 16, by have := lt64 t; omega⟩ h ⟨k.val % 128, by omega⟩) (ptk m c ⟨t.val / 16, by have := lt64 t; omega⟩ h ⟨k.val % 128, by omega⟩)
          (⟨32 * (t.val % 16) + n.val, by omega⟩ : Fin 512) (⟨k.val / 128, by omega⟩ : Fin 32)
        + a4 m c (ix2 (⟨k.val / 128, by omega⟩ : Fin 32) (⟨k.val % 128, by omega⟩ : Fin 128)) := by
  have hn : n.val < 32 := n.isLt
  have hk : k.val < 4096 := k.isLt
  have hh : h.val < 8 := h.isLt
  refine (show _ = (seg (grid0.coords t) (iblk m c 0 t) (iblk m c 1 t) (iblk m c 2 t) (iblk m c 3 t) (iblk m c 4 t) (iblk m c 5 t) ((n.val * 8 + h.val) / 8) (k.val / 128) (by omega) (by omega)
      (ix2 (⟨(n.val * 8 + h.val) % 8, by omega⟩ : Fin 8) (⟨k.val % 128, by omega⟩ : Fin 128)) : EReal)
    + posr (iblk m c 6 t) (k.val / 128) (by omega) (ix2 (0 : Fin 1) (⟨k.val % 128, by omega⟩ : Fin 128)) from rfl).trans ?_
  refine congrArg₂ (fun u v : EReal => u + v) ?_ ?_
  · rw [seg_congr (hn' := hn) (hk' := (by omega : k.val / 128 < 32)) (grid0.coords t) (iblk m c 0 t) (iblk m c 1 t) (iblk m c 2 t) (iblk m c 3 t) (iblk m c 4 t) (iblk m c 5 t) (show (n.val * 8 + h.val) / 8 = n.val by omega) rfl]
    rw [show (⟨(n.val * 8 + h.val) % 8, by omega⟩ : Fin 8) = h from Fin.ext (show (n.val * 8 + h.val) % 8 = h.val by omega)]
    unfold seg winE
    by_cases h1 : 16 * n.val + k.val / 128 < 16
    · rw [dif_pos h1, firstv_apply]
      by_cases h0 : t.val % 16 = 0
      · rw [dif_pos h0, dif_pos (show 16 * (32 * (t.val % 16) + n.val) + k.val / 128 < 16 by omega)]
      · rw [dif_neg h0, dif_neg (show ¬ 16 * (32 * (t.val % 16) + n.val) + k.val / 128 < 16 by omega)]
        refine congrArg _ (Fin.ext ?_)
        dsimp only
        omega
    · rw [dif_neg h1, tok_apply, dif_neg (show ¬ 16 * (32 * (t.val % 16) + n.val) + k.val / 128 < 16 by omega)]
      refine congrArg _ (Fin.ext ?_)
      dsimp only
      omega
  · unfold posr
    refine Eq.trans (congrArg (iblk m c 6 t) ?_) (b_6 m c t ⟨k.val / 128, by omega⟩ ⟨k.val % 128, by omega⟩)
    funext a
    match a with
    | ⟨0, _⟩ => exact Fin.ext (show k.val / 128 + 1 * 0 = k.val / 128 by omega)
    | ⟨1, _⟩ => exact Fin.ext (show 0 + 1 * (k.val % 128) = k.val % 128 by omega)

end Cert.KernelIdeal.Gen
end
-- ==== Proof.Hand.Ref.lean ====
/- The reference's results, element by element: each as the row functions of the first layer's rows. -/
module

public import proofs.«01_k».proof.Proof.Math.Row
public import proofs.«01_k».proof.Proof.Gen.ReferenceIdeal.Value
public import Idealize.ShloMosaic.Lib.Pointwise

@[expose] public section

set_option maxRecDepth 16384
set_option maxHeartbeats 1000000

noncomputable section

namespace Cert.ReferenceIdeal.Gen

open Idealize.ShloMosaic Idealize.ShloMosaic.TcCoe Idealize.ShloMosaic.Tactic
open Cert.Math

/-- The row of a position of a batch and a head. -/
def row (b : Fin 4) (n : Fin 512) (h : Fin 8) : Fin 16384 := ⟨b.val * 4096 + n.val * 8 + h.val, by omega⟩

theorem bc_apply (v : FVec Ideal S16384x1 .f32) (r : Fin 16384) (f : Fin 7168) :
    broadcastTo S16384x7168 v broadcasts_S16384x1_S16384x7168 (ix2 r f) = v (ix2 r (0 : Fin 1)) := by pointwise []
theorem bc2_apply (v : FVec Ideal S16384x1 .f32) (r : Fin 16384) (f : Fin 128) :
    broadcastTo S16384x128 v broadcasts_S16384x1_S16384x128 (ix2 r f) = v (ix2 r (0 : Fin 1)) := by pointwise []
theorem col_apply (v : FVec Ideal S16384 .f32) (r : Fin 16384) :
    shapeCast S16384x1 v shapeCasts_S16384_S16384x1 (ix2 r (0 : Fin 1)) = v (ix1 r) := by pointwise []
theorem flat_apply (v : FVec Ideal S16384x1 .f32) (r : Fin 16384) :
    shapeCast S16384 v shapeCasts_S16384x1_S16384 (ix1 r) = v (ix2 r (0 : Fin 1)) := by pointwise []
theorem max_apply (v : FVec Ideal S16384x7168 .f32) (r : Fin 16384) :
    multiReduction (F := Ideal) .maximumf [1] S16384 v 0xFF800000#32 reduces_S16384x7168_S16384 (.inl rfl) rfl (ix1 r)
      = Finset.univ.fold max (K 0xFF800000#32) (fun k : Fin 7168 => v (ix2 r k)) := by pointwise []
theorem max2_apply (v : FVec Ideal S16384x128 .f32) (r : Fin 16384) :
    multiReduction (F := Ideal) .maximumf [1] S16384 v 0xFF800000#32 reduces_S16384x128_S16384 (.inl rfl) rfl (ix1 r)
      = Finset.univ.fold max (K 0xFF800000#32) (fun k : Fin 128 => v (ix2 r k)) := by pointwise []
theorem dot2_apply (v : FVec Ideal S16384x7168 .fp8e4m3) (w : FVec Ideal S7168x128 .fp8e4m3) (r : Fin 16384) (c : Fin 128) :
    matmul dot_S16384x7168_S7168x128_S16384x128_1_0_0_1_n_n none v w (constant S16384x128 .f32 0x00000000#32) (ix2 r c)
      = ∑ f : Fin 7168, v (ix2 r f) * w (ix2 f c) := by pointwise []
theorem vec2_apply (v : FVec Ideal S128 .f32) (r : Fin 16384) (c : Fin 128) :
    broadcastTo S16384x128 (shapeCast S1x128 v shapeCasts_S128_S1x128) broadcasts_S1x128_S16384x128 (ix2 r c) = v (ix1 c) := by pointwise []

section Layer2
variable (P : FVec Ideal S16384x7168 .f32)

/-- The activation of the whole first layer. -/
theorem act_apply (r : Fin 16384) (f : Fin 7168) :
    k0_pay10 (k0_pay5 (absf P)) (k0_pay6 (absf P)) (k0_pay7 (absf P)) (k0_pay8 P) (k0_pay9 (absf P)) (ix2 r f) = gelu (P (ix2 r f)) := by
  rfl

/-- The exponent of a column of row maxima, element by element. -/
theorem tower_exp (w : FVec Ideal S16384x1 .f32) (i : S16384x1.Idx) :
    select (cmpf .olt (mulf (minimumf w (broadcast S16384x1 (Scalar.ofBits (F := Ideal) .f32 0x7F7FFFFF#32))) (broadcast S16384x1 (Scalar.ofBits .f32 0x3B124925#32))) (broadcast S16384x1 (Scalar.ofBits .f32 0x00800000#32)))
      (broadcast S16384x1 (Scalar.ofBits (F := Ideal) .f32 0x00000000#32))
      (addf (floor (divf (log (mulf (minimumf w (broadcast S16384x1 (Scalar.ofBits .f32 0x7F7FFFFF#32))) (broadcast S16384x1 (Scalar.ofBits .f32 0x3B124925#32)))) (broadcast S16384x1 (Scalar.log (Scalar.ofBits .f32 0x40000000#32)))))
        (broadcast S16384x1 (Scalar.ofBits .f32 0x3F800000#32))) i = rexp (rnorm (w i)) := rfl

theorem tower_inv (E : FVec Ideal S16384x1 .f32) (i : S16384x1.Idx) :
    exp2 (subf (broadcast S16384x1 (Scalar.ofBits (F := Ideal) .f32 0x00000000#32)) E) i = Ideal.exp2 (K 0x00000000#32 - E i) := rfl

theorem tower_scl (E : FVec Ideal S16384x1 .f32) (i : S16384x1.Idx) : exp2 E i = Ideal.exp2 (E i) := rfl

theorem tower_code (x w : FVec Ideal S16384x7168 .f32) (i : S16384x7168.Idx) :
    truncf .fp8e4m3 (minimumf (broadcast S16384x7168 (Scalar.ofBits (F := Ideal) .f32 0x43E00000#32)) (maximumf (broadcast S16384x7168 (Scalar.ofBits .f32 0xC3E00000#32)) (mulf x w))) bitsLt_fp8e4m3_f32 i
      = Cert.Math.code (x i) (w i) := rfl

theorem tower_code2 (x w : FVec Ideal S16384x128 .f32) (i : S16384x128.Idx) :
    truncf .fp8e4m3 (minimumf (broadcast S16384x128 (Scalar.ofBits (F := Ideal) .f32 0x43E00000#32)) (maximumf (broadcast S16384x128 (Scalar.ofBits .f32 0xC3E00000#32)) (mulf x w))) bitsLt_fp8e4m3_f32 i
      = Cert.Math.code (x i) (w i) := rfl

variable (v39 v57 v81 v83 v84 : FVec Ideal S16384x7168 .f32) (v122 : Vec Ideal S7168x128 .fp8e4m3)

theorem exp_apply (r : Fin 16384) :
    k0_pay11 v39 v57 v81 v83 v84 (ix2 r (0 : Fin 1)) = rexp (rnorm (amax fun f : Fin 7168 => k0_pay10 v39 v57 v81 v83 v84 (ix2 r f))) := by
  unfold k0_pay11
  generalize k0_pay10 v39 v57 v81 v83 v84 = X
  try dsimp only
  refine (tower_exp _ _).trans ?_
  rw [col_apply, max_apply]
  unfold amax
  rfl

theorem code_apply (r : Fin 16384) (f : Fin 7168) :
    k0_pay12 v39 v57 v81 v83 v84 (ix2 r f) = code (k0_pay10 v39 v57 v81 v83 v84 (ix2 r f)) (inv (amax fun f : Fin 7168 => k0_pay10 v39 v57 v81 v83 v84 (ix2 r f))) := by
  have h := exp_apply v39 v57 v81 v83 v84 r
  unfold k0_pay12
  generalize k0_pay11 v39 v57 v81 v83 v84 = E at *
  generalize k0_pay10 v39 v57 v81 v83 v84 = X at *
  try dsimp only
  refine (tower_code _ _ _).trans ?_
  rw [bc_apply, tower_inv, h, ← inv_eq]

theorem scale_apply (r : Fin 16384) :
    k0_pay13 v39 v57 v81 v83 v84 (ix1 r) = scl (amax fun f : Fin 7168 => k0_pay10 v39 v57 v81 v83 v84 (ix2 r f)) := by
  have h := exp_apply v39 v57 v81 v83 v84 r
  unfold k0_pay13
  generalize k0_pay11 v39 v57 v81 v83 v84 = E at *
  try dsimp only
  rw [flat_apply, tower_scl, h, ← scl_eq]

theorem acc_apply (r : Fin 16384) (c : Fin 128) :
    k0_pay14 v39 v57 v81 v83 v84 v122 (ix2 r c) = (∑ f : Fin 7168, k0_pay12 v39 v57 v81 v83 v84 (ix2 r f) * v122 (ix2 f c)) * k0_pay13 v39 v57 v81 v83 v84 (ix1 r) := by
  unfold k0_pay14
  generalize k0_pay12 v39 v57 v81 v83 v84 = C
  generalize k0_pay13 v39 v57 v81 v83 v84 = S
  try dsimp only
  exact (congrArg₂ (fun a b : EReal => a * b) (dot2_apply _ _ r c) ((bc2_apply _ r c).trans (col_apply _ r)) : _)

variable (v126 : FVec Ideal S16384x128 .f32) (a9 a10 : Vec Ideal S128 .f32)

theorem l2_apply (r : Fin 16384) (c : Fin 128) :
    k0_pay16 v126 (k0_pay15 a9) a10 (ix2 r c) = v126 (ix2 r c) * a9 (ix1 c) + a10 (ix1 c) := by
  refine (congrArg₂ (fun a b : EReal => v126 (ix2 r c) * a + b) (vec2_apply _ r c) (vec2_apply _ r c) : _)

variable (v129 : FVec Ideal S16384x128 .f32)
theorem exp2_apply' (r : Fin 16384) :
    k0_pay17 v126 v129 a10 (ix2 r (0 : Fin 1)) = rexp (rnorm (amax fun c : Fin 128 => k0_pay16 v126 v129 a10 (ix2 r c))) := by
  unfold k0_pay17
  generalize k0_pay16 v126 v129 a10 = X
  try dsimp only
  refine (tower_exp _ _).trans ?_
  rw [col_apply, max2_apply]
  unfold amax
  rfl

theorem rs2_apply (v : FVec Ideal S16384x128 .fp8e4m3) (b : Fin 4) (n : Fin 512) (h : Fin 8) (c : Fin 128) :
    shapeCast S4x512x8x128 v shapeCasts_S16384x128_S4x512x8x128 (ix4 b n h c) = v (ix2 (row b n h) c) := by
  pointwise [row]

theorem code2_apply (b : Fin 4) (n : Fin 512) (h : Fin 8) (c : Fin 128) :
    k0_pay18 v126 v129 a10 (ix4 b n h c) = code (k0_pay16 v126 v129 a10 (ix2 (row b n h) c)) (inv (amax fun c : Fin 128 => k0_pay16 v126 v129 a10 (ix2 (row b n h) c))) := by
  have h := exp2_apply' v126 a10 v129 (row b n h)
  unfold k0_pay18
  generalize k0_pay17 v126 v129 a10 = E at *
  generalize k0_pay16 v126 v129 a10 = X at *
  try dsimp only
  rw [rs2_apply]
  refine (tower_code2 _ _ _).trans ?_
  rw [bc2_apply, tower_inv, h, ← inv_eq]

theorem pay1_apply (v : FVec Ideal S16384x7168 .fp8e4m3) (b : Fin 4) (n : Fin 512) (h : Fin 8) (f : Fin 7168) :
    k0_pay1 v (ix4 b n h f) = v (ix2 (row b n h) f) := by
  pointwise [k0_pay1, row]

theorem pay2_apply (v : FVec Ideal S16384 .f32) (b : Fin 4) (n : Fin 512) (h : Fin 8) :
    k0_pay2 v (ix3 b h n) = v (ix1 (row b n h)) := by
  pointwise [k0_pay2, row]

theorem scale2_apply (b : Fin 4) (n : Fin 512) (h : Fin 8) :
    k0_pay19 v126 v129 a10 (ix3 b h n) = scl (amax fun c : Fin 128 => k0_pay16 v126 v129 a10 (ix2 (row b n h) c)) := by
  have h := exp2_apply' v126 a10 v129 (row b n h)
  unfold k0_pay19
  generalize k0_pay17 v126 v129 a10 = E at *
  try dsimp only
  refine (pay2_apply _ b n _).trans ?_
  rw [flat_apply, tower_scl, h, ← scl_eq]

end Layer2

end Cert.ReferenceIdeal.Gen
end
-- ==== Proof.Hand.RefWin.lean ====
/- The first layer of the reference, element by element. -/
module

public import proofs.«01_k».proof.Proof.Math.Row
public import proofs.«01_k».proof.Proof.Gen.ReferenceIdeal.Value
public import Idealize.ShloMosaic.Lib.Pointwise

@[expose] public section

set_option maxRecDepth 16384
set_option maxHeartbeats 1000000

noncomputable section

namespace Cert.ReferenceIdeal.Gen

open Idealize.ShloMosaic Idealize.ShloMosaic.TcCoe Idealize.ShloMosaic.Tactic
open Cert.Math

theorem dot1_apply (v : FVec Ideal S16384x4096 .bf16) (w : FVec Ideal S4096x7168 .bf16) (r : Fin 16384) (c : Fin 7168) :
    matmul dot_S16384x4096_S4096x7168_S16384x7168_1_0_0_1_n_n none v w (constant S16384x7168 .f32 0x00000000#32) (ix2 r c)
      = ∑ k : Fin 4096, v (ix2 r k) * w (ix2 k c) := by pointwise []
theorem vec1_apply (v : FVec Ideal S7168 .f32) (r : Fin 16384) (c : Fin 7168) :
    broadcastTo S16384x7168 (shapeCast S1x7168 v shapeCasts_S7168_S1x7168) broadcasts_S1x7168_S16384x7168 (ix2 r c) = v (ix1 c) := by pointwise []
theorem w1_apply (v : FVec Ideal S32x128x7168 .bf16) (k : Fin 4096) (c : Fin 7168) :
    shapeCast S4096x7168 v shapeCasts_S32x128x7168_S4096x7168 (ix2 k c) = v (ix3 (⟨k.val / 128, by omega⟩ : Fin 32) (⟨k.val % 128, by omega⟩ : Fin 128) c) := by pointwise []
theorem x1_apply (v : FVec Ideal S4x512x32x8x128 .bf16) (b : Fin 4) (n : Fin 512) (h : Fin 8) (k : Fin 4096) :
    shapeCast S16384x4096 (transpose S4x512x8x32x128 [0, 1, 3, 2, 4] v transposes_S4x512x32x8x128_p0_1_3_2_4_S4x512x8x32x128)
      shapeCasts_S4x512x8x32x128_S16384x4096 (ix2 (⟨b.val * 4096 + n.val * 8 + h.val, by omega⟩ : Fin 16384) k)
      = v (ix5 b n (⟨k.val / 128, by omega⟩ : Fin 32) h (⟨k.val % 128, by omega⟩ : Fin 128)) := by
  pointwise []
theorem pos_apply (v : FVec Ideal S32x128 .f32) (b : Fin 4) (n : Fin 512) (p : Fin 32) (h : Fin 8) (d : Fin 128) :
    broadcastTo S4x512x32x8x128 (shapeCast S1x1x32x1x128 (shapeCast S32x1x128 v shapeCasts_S32x128_S32x1x128) shapeCasts_S32x1x128_S1x1x32x1x128)
      broadcasts_S1x1x32x1x128_S4x512x32x8x128 (ix5 b n p h d) = v (ix2 p d) := by pointwise []
theorem ch_apply (v : FVec Ideal S4x8192x8x128 .f32) (b : Fin 4) (n : Fin 512) (p : Fin 16) (h : Fin 8) (d : Fin 128) :
    shapeCast S4x512x16x8x128 v shapeCasts_S4x8192x8x128_S4x512x16x8x128 (ix5 b n p h d) = v (ix4 b (⟨n.val * 16 + p.val, by omega⟩ : Fin 8192) h d) := by
  pointwise []
theorem prev_apply (v : FVec Ideal S4x16x8x128 .f32) (b : Fin 4) (p : Fin 16) (h : Fin 8) (d : Fin 128) :
    shapeCast S4x1x16x8x128 v shapeCasts_S4x16x8x128_S4x1x16x8x128 (ix5 b (0 : Fin 1) p h d) = v (ix4 b p h d) := by pointwise []
theorem sc_apply (v : FVec Ideal S4x8192x8 .f32) (b : Fin 4) (s : Fin 8192) (h : Fin 8) (d : Fin 128) :
    broadcastTo S4x8192x8x128 (shapeCast S4x8192x8x1 v shapeCasts_S4x8192x8_S4x8192x8x1) broadcasts_S4x8192x8x1_S4x8192x8x128 (ix4 b s h d) = v (ix3 b s h) := by
  pointwise []
theorem scp_apply (v : FVec Ideal S4x16x8 .f32) (b : Fin 4) (s : Fin 16) (h : Fin 8) (d : Fin 128) :
    broadcastTo S4x16x8x128 (shapeCast S4x16x8x1 v shapeCasts_S4x16x8_S4x16x8x1) broadcasts_S4x16x8x1_S4x16x8x128 (ix4 b s h d) = v (ix3 b s h) := by
  pointwise []
theorem cat_apply (u : FVec Ideal S4x1x16x8x128 .f32) (v : FVec Ideal S4x512x16x8x128 .f32) (b : Fin 4) (n : Fin 512) (p : Fin 32) (h : Fin 8) (d : Fin 128) :
    concatenate S4x512x32x8x128 2 [⟨S4x512x16x8x128, concatenate S4x512x16x8x128 1 [⟨S4x1x16x8x128, u⟩, ⟨S4x511x16x8x128, extractStridedSlice S4x511x16x8x128 ![0, 0, 0, 0, 0] v slices_S4x512x16x8x128_o0_0_0_0_0_S4x511x16x8x128⟩] concatenates_S4x1x16x8x128_S4x511x16x8x128_S4x512x16x8x128_d1⟩, ⟨S4x512x16x8x128, v⟩]
      concatenates_S4x512x16x8x128_S4x512x16x8x128_S4x512x32x8x128_d2 (ix5 b n p h d)
    = if hp : p.val < 16 then (if hn : n.val < 1 then u (ix5 b (0 : Fin 1) (⟨p.val, hp⟩ : Fin 16) h d) else v (ix5 b (⟨n.val - 1, by omega⟩ : Fin 512) (⟨p.val, hp⟩ : Fin 16) h d))
      else v (ix5 b n (⟨p.val - 16, by omega⟩ : Fin 16) h d) := by
  pointwise []
  split
  · split
    · rename_i h1 h2
      have e : (⟨n.val, h2⟩ : Fin 1) = 0 := Subsingleton.elim _ _
      rw [e]
    · rfl
  · rfl

theorem ext_apply {s : Shape} (x : FVec Ideal s .fp8e4m3) (i : s.Idx) : extf .f32 x bitsLt_fp8e4m3_f32 i = x i := rfl

theorem pre_apply (a0 : Vec Ideal S4x8192x8x128 .fp8e4m3) (a1 : Vec Ideal S4x8192x8 .f32) (a2 : Vec Ideal S4x16x8x128 .fp8e4m3) (a3 : Vec Ideal S4x16x8 .f32)
    (a4 : Vec Ideal S32x128 .f32) (a5 : Vec Ideal S32x128x7168 .fp8e4m3) (a6 a7 : Vec Ideal S7168 .f32) (b : Fin 4) (n : Fin 512) (h : Fin 8) (f : Fin 7168) :
    k0_pay3 a0 a1 a2 a3 a4 a5 a6 a7 (ix2 (⟨b.val * 4096 + n.val * 8 + h.val, by omega⟩ : Fin 16384) f)
      = pre1 (fun p d => winE (fun s => a0 (ix4 b s h d) * a1 (ix3 b s h)) (fun s => a2 (ix4 b s h d) * a3 (ix3 b s h)) n p + a4 (ix2 p d))
          (fun p d => a5 (ix3 p d f)) (a6 (ix1 f)) (a7 (ix1 f)) := by
  unfold k0_pay3 pre1
  try dsimp only
  refine (congrArg₂ (fun u v : EReal => u + v) (congrArg₂ (fun u v : EReal => u * v) (dot1_apply _ _ _ _) (vec1_apply _ _ _)) (vec1_apply _ _ _) : _).trans ?_
  refine congrArg (fun u : EReal => u * a6 (ix1 f) + a7 (ix1 f)) (Finset.sum_congr rfl fun k _ => ?_)
  refine congrArg₂ (fun u v : EReal => u * v) ((x1_apply _ b n h k).trans ?_) (w1_apply _ k f)
  generalize (⟨k.val / 128, _⟩ : Fin 32) = p
  generalize (⟨k.val % 128, _⟩ : Fin 128) = d
  refine (congrArg₂ (fun u v : EReal => u + v) (cat_apply _ _ b n p h d) (pos_apply a4 b n p h d) : _).trans ?_
  refine congrArg (fun u : EReal => u + a4 (ix2 p d)) ?_
  have t : ∀ (n : Fin 512) (p : Fin 16), @Eq EReal (shapeCast S4x512x16x8x128 (mulf (extf (F := Ideal) (φ := .fp8e4m3) .f32 a0 bitsLt_fp8e4m3_f32) (broadcastTo S4x8192x8x128 (shapeCast S4x8192x8x1 (α := Ideal .f32) a1 shapeCasts_S4x8192x8_S4x8192x8x1) broadcasts_S4x8192x8x1_S4x8192x8x128)) shapeCasts_S4x8192x8x128_S4x512x16x8x128 (ix5 b n p h d))
      ((a0 (ix4 b (⟨n.val * 16 + p.val, by omega⟩ : Fin 8192) h d) : EReal) * a1 (ix3 b (⟨n.val * 16 + p.val, by omega⟩ : Fin 8192) h)) := by
    intro n p
    refine (ch_apply _ b n p h d).trans ?_
    exact (congrArg (fun u : EReal => (a0 (ix4 b (⟨n.val * 16 + p.val, by omega⟩ : Fin 8192) h d) : EReal) * u) (sc_apply a1 b _ h d))
  have q : ∀ p : Fin 16, @Eq EReal (shapeCast S4x1x16x8x128 (mulf (extf (F := Ideal) (φ := .fp8e4m3) .f32 a2 bitsLt_fp8e4m3_f32) (broadcastTo S4x16x8x128 (shapeCast S4x16x8x1 (α := Ideal .f32) a3 shapeCasts_S4x16x8_S4x16x8x1) broadcasts_S4x16x8x1_S4x16x8x128)) shapeCasts_S4x16x8x128_S4x1x16x8x128 (ix5 b (0 : Fin 1) p h d))
      ((a2 (ix4 b p h d) : EReal) * a3 (ix3 b p h)) := by
    intro p
    refine (prev_apply _ b p h d).trans ?_
    exact (congrArg (fun u : EReal => (a2 (ix4 b p h d) : EReal) * u) (scp_apply a3 b p h d))
  have T : ∀ s s' : Fin 8192, s = s' → (a0 (ix4 b s h d) : EReal) * a1 (ix3 b s h) = (a0 (ix4 b s' h d) : EReal) * a1 (ix3 b s' h) := by rintro s _ rfl; rfl
  unfold winE
  by_cases h1 : p.val < 16
  · rw [dif_pos h1]
    by_cases h2 : n.val < 1
    · rw [dif_pos h2, dif_pos (by omega)]
      exact q _
    · rw [dif_neg h2, dif_neg (by omega)]
      exact (t _ _).trans (T _ _ (Fin.ext (by dsimp only; omega)))
  · rw [dif_neg h1, dif_neg (by omega)]
    exact (t _ _).trans (T _ _ (Fin.ext (by dsimp only; omega)))

end Cert.ReferenceIdeal.Gen
end
-- ==== Proof.Hand.RefSpec.lean ====
/- The reference's four results, element by element, as functions of the arguments. -/
module

public import proofs.«01_k».proof.Proof.Hand.Ref
public import proofs.«01_k».proof.Proof.Hand.RefWin

@[expose] public section

set_option maxRecDepth 16384
set_option maxHeartbeats 1000000

noncomputable section

namespace Cert.ReferenceIdeal.Gen

open Idealize.ShloMosaic Idealize.ShloMosaic.TcCoe Idealize.ShloMosaic.Tactic
open Cert.Math

section
variable (a0 : Vec Ideal S4x8192x8x128 .fp8e4m3) (a1 : Vec Ideal S4x8192x8 .f32) (a2 : Vec Ideal S4x16x8x128 .fp8e4m3) (a3 : Vec Ideal S4x16x8 .f32) (a4 : Vec Ideal S32x128 .f32) (a5 : Vec Ideal S32x128x7168 .fp8e4m3) (a6 : Vec Ideal S7168 .f32) (a7 : Vec Ideal S7168 .f32) (a8 : Vec Ideal S7168x128 .fp8e4m3) (a9 : Vec Ideal S128 .f32) (a10 : Vec Ideal S128 .f32)

/-- The hidden row of a position and a head. -/
def hid (b : Fin 4) (n : Fin 512) (h : Fin 8) : Fin 7168 → EReal := fun f =>
  gelu (pre1 (fun p d => winE (fun s => a0 (ix4 b s h d) * a1 (ix3 b s h)) (fun s => a2 (ix4 b s h d) * a3 (ix3 b s h)) n p + a4 (ix2 p d))
          (fun p d => a5 (ix3 p d f)) (a6 (ix1 f)) (a7 (ix1 f)))

/-- The second layer's row. -/
def ckr (b : Fin 4) (n : Fin 512) (h : Fin 8) : Fin 128 → EReal :=
  row2 (hid a0 a1 a2 a3 a4 a5 a6 a7 b n h) (fun f c => a8 (ix2 f c)) (fun c => a9 (ix1 c)) (fun c => a10 (ix1 c))

theorem whole0 (a : Vec Ideal S4x8192x8x128 .fp8e4m3) : View.ld a r0_0 = a := View.ld_unit_zero (by funext a; fin_cases a <;> rfl) _ a
theorem whole1 (a : Vec Ideal S4x8192x8 .f32) : View.ld a r0_1 = a := View.ld_unit_zero (by funext a; fin_cases a <;> rfl) _ a
theorem whole2 (a : Vec Ideal S4x16x8x128 .fp8e4m3) : View.ld a r0_2 = a := View.ld_unit_zero (by funext a; fin_cases a <;> rfl) _ a
theorem whole3 (a : Vec Ideal S4x16x8 .f32) : View.ld a r0_3 = a := View.ld_unit_zero (by funext a; fin_cases a <;> rfl) _ a
theorem whole4 (a : Vec Ideal S32x128 .f32) : View.ld a r0_4 = a := View.ld_unit_zero (by funext a; fin_cases a <;> rfl) _ a
theorem whole5 (a : Vec Ideal S32x128x7168 .fp8e4m3) : View.ld a r0_5 = a := View.ld_unit_zero (by funext a; fin_cases a <;> rfl) _ a
theorem whole6 (a : Vec Ideal S7168 .f32) : View.ld a r0_6 = a := View.ld_unit_zero (by funext a; fin_cases a <;> rfl) _ a
theorem whole8 (a : Vec Ideal S7168x128 .fp8e4m3) : View.ld a r0_7 = a := View.ld_unit_zero (by funext a; fin_cases a <;> rfl) _ a
theorem whole9 (a : Vec Ideal S128 .f32) : View.ld a r0_8 = a := View.ld_unit_zero (by funext a; fin_cases a <;> rfl) _ a

theorem pay21_eq : k0_pay21 a0 a1 a2 a3 a4 a5 a6 a7 a8 a9 a10 = k0_pay5 (absf (k0_pay3 a0 a1 a2 a3 a4 a5 a6 a7)) := by
  unfold k0_pay21 k0_pay20 k0_pay4; rw [whole0, whole1, whole2, whole3, whole4, whole5, whole6, whole6]
theorem pay22_eq : k0_pay22 a0 a1 a2 a3 a4 a5 a6 a7 a8 a9 a10 = k0_pay6 (absf (k0_pay3 a0 a1 a2 a3 a4 a5 a6 a7)) := by
  unfold k0_pay22 k0_pay20 k0_pay4; rw [whole0, whole1, whole2, whole3, whole4, whole5, whole6, whole6]
theorem pay23_eq : k0_pay23 a0 a1 a2 a3 a4 a5 a6 a7 a8 a9 a10 = k0_pay7 (absf (k0_pay3 a0 a1 a2 a3 a4 a5 a6 a7)) := by
  unfold k0_pay23 k0_pay20 k0_pay4; rw [whole0, whole1, whole2, whole3, whole4, whole5, whole6, whole6]
theorem pay24_eq : k0_pay24 a0 a1 a2 a3 a4 a5 a6 a7 a8 a9 a10 = k0_pay8 (k0_pay3 a0 a1 a2 a3 a4 a5 a6 a7) := by
  unfold k0_pay24; rw [whole0, whole1, whole2, whole3, whole4, whole5, whole6, whole6]
theorem pay25_eq : k0_pay25 a0 a1 a2 a3 a4 a5 a6 a7 a8 a9 a10 = k0_pay9 (absf (k0_pay3 a0 a1 a2 a3 a4 a5 a6 a7)) := by
  unfold k0_pay25 k0_pay20 k0_pay4; rw [whole0, whole1, whole2, whole3, whole4, whole5, whole6, whole6]

theorem hid_apply (b : Fin 4) (n : Fin 512) (h : Fin 8) (f : Fin 7168) :
    k0_pay10 (k0_pay21 a0 a1 a2 a3 a4 a5 a6 a7 a8 a9 a10) (k0_pay22 a0 a1 a2 a3 a4 a5 a6 a7 a8 a9 a10) (k0_pay23 a0 a1 a2 a3 a4 a5 a6 a7 a8 a9 a10) (k0_pay24 a0 a1 a2 a3 a4 a5 a6 a7 a8 a9 a10) (k0_pay25 a0 a1 a2 a3 a4 a5 a6 a7 a8 a9 a10) (ix2 (row b n h) f) = hid a0 a1 a2 a3 a4 a5 a6 a7 b n h f := by
  rw [pay21_eq, pay22_eq, pay23_eq, pay24_eq, pay25_eq, act_apply]
  exact congrArg gelu (pre_apply a0 a1 a2 a3 a4 a5 a6 a7 b n h f)

theorem G13_apply (b : Fin 4) (n : Fin 512) (h : Fin 8) (f : Fin 7168) :
    Value.G13 a0 a1 a2 a3 a4 a5 a6 a7 a8 a9 a10 (ix4 b n h f) = code (hid a0 a1 a2 a3 a4 a5 a6 a7 b n h f) (inv (amax (hid a0 a1 a2 a3 a4 a5 a6 a7 b n h))) := by
  refine (pay1_apply _ b n h f).trans ?_
  rw [code_apply]
  simp only [hid_apply]

theorem G14_apply (b : Fin 4) (n : Fin 512) (h : Fin 8) :
    Value.G14 a0 a1 a2 a3 a4 a5 a6 a7 a8 a9 a10 (ix3 b h n) = scl (amax (hid a0 a1 a2 a3 a4 a5 a6 a7 b n h)) := by
  refine (pay2_apply _ b n h).trans ?_
  rw [scale_apply]
  simp only [hid_apply]

theorem ck_apply (b : Fin 4) (n : Fin 512) (h : Fin 8) (c : Fin 128) :
    k0_pay16 (k0_pay26 a0 a1 a2 a3 a4 a5 a6 a7 a8 a9 a10) (k0_pay27 a0 a1 a2 a3 a4 a5 a6 a7 a8 a9 a10) a10 (ix2 (row b n h) c) = ckr a0 a1 a2 a3 a4 a5 a6 a7 a8 a9 a10 b n h c := by
  unfold k0_pay26 k0_pay27
  rw [whole8, whole9, l2_apply, acc_apply, scale_apply]
  simp only [code_apply, hid_apply]
  rfl

theorem G11_apply (b : Fin 4) (n : Fin 512) (h : Fin 8) (c : Fin 128) :
    Value.G11 a0 a1 a2 a3 a4 a5 a6 a7 a8 a9 a10 (ix4 b n h c) = code (ckr a0 a1 a2 a3 a4 a5 a6 a7 a8 a9 a10 b n h c) (inv (amax (ckr a0 a1 a2 a3 a4 a5 a6 a7 a8 a9 a10 b n h))) := by
  refine (code2_apply _ _ _ b n h c).trans ?_
  simp only [ck_apply]

theorem G12_apply (b : Fin 4) (n : Fin 512) (h : Fin 8) :
    Value.G12 a0 a1 a2 a3 a4 a5 a6 a7 a8 a9 a10 (ix3 b h n) = scl (amax (ckr a0 a1 a2 a3 a4 a5 a6 a7 a8 a9 a10 b n h)) := by
  refine (scale2_apply _ _ _ b n h).trans ?_
  simp only [ck_apply]

end

end Cert.ReferenceIdeal.Gen
end
-- ==== Proof.Hand.Arr.lean ====
/- The four result arrays after the run: the reference's results of the same arguments. -/
module

public import proofs.«01_k».proof.Proof.Hand.Frame
public import proofs.«01_k».proof.Proof.Hand.Ker
public import proofs.«01_k».proof.Proof.Hand.Blk
public import proofs.«01_k».proof.Proof.Hand.RefSpec

@[expose] public section

set_option maxRecDepth 16384
set_option maxHeartbeats 1000000

noncomputable section

namespace Cert.KernelIdeal.Gen

open Idealize.ShloMosaic Idealize.ShloMosaic.TcCoe Idealize.ShloMosaic.Tactic
open Idealize.ShloMosaic.Pipeline (Dat Cfg Window)
open Idealize.SL.Sem
open Cert.Math

variable (m : (ℓ : Loc nD τ sig) → Buf (Elt Ideal) ℓ) (c : Dev nD)

/-- The hidden row and the second layer's row of a position and a head, of the arguments. -/
def hidA (b : Fin 4) (n : Fin 512) (h : Fin 8) : Fin 7168 → EReal :=
  Cert.ReferenceIdeal.Gen.hid (a0 m c) (a1 m c) (a2 m c) (a3 m c) (a4 m c) (a5 m c) (a6 m c) (a7 m c) b n h
def ckrA (b : Fin 4) (n : Fin 512) (h : Fin 8) : Fin 128 → EReal :=
  Cert.ReferenceIdeal.Gen.ckr (a0 m c) (a1 m c) (a2 m c) (a3 m c) (a4 m c) (a5 m c) (a6 m c) (a7 m c) (a8 m c) (a9 m c) (a10 m c) b n h

/-- The batch of a point, and the position of a row of its block. -/
def bat (t : Fin cfg0.N) : Fin 4 := ⟨t.val / 16, by have := lt64 t; omega⟩
def pos (t : Fin cfg0.N) (n : Fin 32) : Fin 512 := ⟨32 * (t.val % 16) + n.val, by omega⟩

theorem hk_at (t : Fin cfg0.N) (n : Fin 32) (h : Fin 8) :
    hk (xbAt m c t) (iblk m c 7 t) (iblk m c 8 t) (iblk m c 9 t) (⟨n.val * 8 + h.val, by omega⟩ : Fin 256) = hidA m c (bat t) (pos t n) h := by
  funext f
  unfold hk xbAt
  simp only [XB_apply, b_7, b_8, b_9]
  rfl

theorem ck_at (t : Fin cfg0.N) (n : Fin 32) (h : Fin 8) :
    (fun k : Fin 128 => (ckAt m c t (ix2 (⟨n.val * 8 + h.val, by omega⟩ : Fin 256) k) : EReal)) = ckrA m c (bat t) (pos t n) h := by
  funext k
  unfold ckAt hmAt hfAt
  rw [CK_apply, hk_at]
  simp only [b_10, b_11, b_12]
  rfl

/-- The results, of the arguments. -/
abbrev R1 : Vec Ideal S4x512x8x128 .fp8e4m3 := Cert.ReferenceIdeal.Value.G11 (a0 m c) (a1 m c) (a2 m c) (a3 m c) (a4 m c) (a5 m c) (a6 m c) (a7 m c) (a8 m c) (a9 m c) (a10 m c)
abbrev R2 : Vec Ideal S4x8x512 .f32 := Cert.ReferenceIdeal.Value.G12 (a0 m c) (a1 m c) (a2 m c) (a3 m c) (a4 m c) (a5 m c) (a6 m c) (a7 m c) (a8 m c) (a9 m c) (a10 m c)
abbrev R3 : Vec Ideal S4x512x8x7168 .fp8e4m3 := Cert.ReferenceIdeal.Value.G13 (a0 m c) (a1 m c) (a2 m c) (a3 m c) (a4 m c) (a5 m c) (a6 m c) (a7 m c) (a8 m c) (a9 m c) (a10 m c)
abbrev R4 : Vec Ideal S4x8x512 .f32 := Cert.ReferenceIdeal.Value.G14 (a0 m c) (a1 m c) (a2 m c) (a3 m c) (a4 m c) (a5 m c) (a6 m c) (a7 m c) (a8 m c) (a9 m c) (a10 m c)

theorem at13 (t : Fin cfg0.N) (n : Fin 32) (h : Fin 8) (k : Fin 128) : CCv (ckAt m c t) (ix4 (0 : Fin 1) n h k) = R1 m c (ix4 (bat t) (pos t n) h k) := by
  rw [CCv_apply, ck_at]
  have e := congrFun (ck_at m c t n h) k
  refine Eq.trans ?_ (Cert.ReferenceIdeal.Gen.G11_apply _ _ _ _ _ _ _ _ _ _ _ _ _ _ _).symm
  exact congrArg (fun u : EReal => Cert.Math.code u _) e

theorem at15 (t : Fin cfg0.N) (n : Fin 32) (h : Fin 8) (f : Fin 7168) :
    HCv (INVv (hmAt m c t)) (hfAt m c t) (ix4 (0 : Fin 1) n h f) = R3 m c (ix4 (bat t) (pos t n) h f) := by
  unfold hmAt hfAt
  refine (HC_apply _ _ _ _ _ _ _).trans ?_
  rw [hk_at]
  exact (Cert.ReferenceIdeal.Gen.G13_apply _ _ _ _ _ _ _ _ _ _ _ _ _ _ _).symm

theorem at14 (t : Fin cfg0.N) (n : Fin 32) (h : Fin 8) : CSv (ckAt m c t) (ix2 (⟨n.val * 8 + h.val, by omega⟩ : Fin 256) (0 : Fin 1)) = R2 m c (ix3 (bat t) h (pos t n)) := by
  rw [CSv_apply, ck_at]
  exact (Cert.ReferenceIdeal.Gen.G12_apply _ _ _ _ _ _ _ _ _ _ _ _ _ _).symm

theorem at16 (t : Fin cfg0.N) (n : Fin 32) (h : Fin 8) : SCv (hmAt m c t) (ix2 (⟨n.val * 8 + h.val, by omega⟩ : Fin 256) (0 : Fin 1)) = R4 m c (ix3 (bat t) h (pos t n)) := by
  unfold hmAt
  rw [SC_apply, hk_at]
  exact (Cert.ReferenceIdeal.Gen.G14_apply _ _ _ _ _ _ _ _ _ _ _ _ _ _).symm

/-- A scale block complete after the last point of a group of four. -/
theorem lanes_at (val : Fin cfg0.N → FVec Ideal S256x1 .f32) (R : Vec Ideal S4x8x512 .f32)
    (hv : ∀ (t : Fin cfg0.N) (n : Fin 32) (h : Fin 8), val t (ix2 (⟨n.val * 8 + h.val, by omega⟩ : Fin 256) (0 : Fin 1)) = R (ix3 (bat t) h (pos t n)))
    (t : Fin cfg0.N) (ht : t.val % 4 = 3) (X : Vec Ideal S1x8x128 .f32) (hX : Lanes val t X) (h : Fin 8) (l : Fin 128) :
    X (ix3 (0 : Fin 1) h l) = R (ix3 (bat t) h (⟨128 * (t.val % 16 / 4) + l.val, by omega⟩ : Fin 512)) := by
  have h64 := lt64 t
  have hl : l.val < 128 := l.isLt
  refine (hX h l (by omega)).trans ?_
  have e := hv ⟨t.val - t.val % 4 + l.val / 32, by have := t.isLt; omega⟩ ⟨l.val % 32, by omega⟩ h
  refine Eq.trans (congrArg (val _) ?_) (e.trans (congrArg R ?_))
  · refine congrArg (fun r => ix2 r (0 : Fin 1)) (Fin.ext ?_)
    show 8 * (l.val % 32) + h.val = l.val % 32 * 8 + h.val
    omega
  · refine congrArg₂ (fun b n => ix3 b h n) (Fin.ext ?_) (Fin.ext ?_)
    · show (t.val - t.val % 4 + l.val / 32) / 16 = t.val / 16
      omega
    · show 32 * ((t.val - t.val % 4 + l.val / 32) % 16) + l.val % 32 = 128 * (t.val % 16 / 4) + l.val
      omega

variable (after : (w' : Fin cfg0.W) → Fin cfg0.N → (cfg0.win w').block.Idx → Elt Ideal (cfg0.win w').elt)
  (hL : ∀ (w : Fin cfg0.W) (u : Fin cfg0.N), (cfg0.win w).flush u = true → (rd m c).Leaves w u (after w u))

include hL

theorem final13 : ((rd m c).withAfter after).arrAt 13 cfg0.N = R1 m c := by
  refine Dat.arrAt_eq_of_covers _ 13 _ (by decide +kernel) fun t hf y => ?_
  have hl : after 13 t = CCv (ckAt m c t) := (dats m 0 c).toRRel_leaves (w := 13) rfl (hL 13 t hf)
  refine (show _ = after 13 t y from rfl).trans ((congrFun hl y).trans ?_)
  have ey : y = ix4 (0 : Fin 1) (y 1 : Fin 32) (y 2 : Fin 8) (y 3 : Fin 128) := by
    funext a
    match a with
    | ⟨0, _⟩ => exact Fin.ext (Nat.lt_one_iff.mp (y 0).isLt)
    | ⟨1, _⟩ => rfl
    | ⟨2, _⟩ => rfl
    | ⟨3, _⟩ => rfl
  refine (congrArg (CCv (ckAt m c t)) ey).trans ((at13 m c t _ _ _).trans (congrArg (R1 m c) ?_))
  have hy : (y 0).val < 1 := (y 0).isLt
  unfold bat pos
  blk_ext [ix_13]

theorem final15 : ((rd m c).withAfter after).arrAt 15 cfg0.N = R3 m c := by
  refine Dat.arrAt_eq_of_covers _ 15 _ (by decide +kernel) fun t hf y => ?_
  have hl : after 15 t = HCv (INVv (hmAt m c t)) (hfAt m c t) := (dats m 0 c).toRRel_leaves (w := 15) rfl (hL 15 t hf)
  refine (show _ = after 15 t y from rfl).trans ((congrFun hl y).trans ?_)
  have ey : y = ix4 (0 : Fin 1) (y 1 : Fin 32) (y 2 : Fin 8) (y 3 : Fin 7168) := by
    funext a
    match a with
    | ⟨0, _⟩ => exact Fin.ext (Nat.lt_one_iff.mp (y 0).isLt)
    | ⟨1, _⟩ => rfl
    | ⟨2, _⟩ => rfl
    | ⟨3, _⟩ => rfl
  refine (congrArg (HCv (INVv (hmAt m c t)) (hfAt m c t)) ey).trans ((at15 m c t _ _ _).trans (congrArg (R3 m c) ?_))
  have hy : (y 0).val < 1 := (y 0).isLt
  unfold bat pos
  blk_ext [ix_15]

theorem final14 : ((rd m c).withAfter after).arrAt 14 cfg0.N = R2 m c := by
  refine Dat.arrAt_eq_of_covers _ 14 _ (by decide +kernel) fun t hf y => ?_
  have hl : Lanes (fun t => CSv (ckAt m c t)) t (after 14 t) := (dats m 0 c).toRRel_leaves (w := 14) rfl (hL 14 t hf)
  refine (show _ = after 14 t y from rfl).trans ?_
  have ey : y = ix3 (0 : Fin 1) (y 1 : Fin 8) (y 2 : Fin 128) := by
    funext a
    match a with
    | ⟨0, _⟩ => exact Fin.ext (Nat.lt_one_iff.mp (y 0).isLt)
    | ⟨1, _⟩ => rfl
    | ⟨2, _⟩ => rfl
  refine (congrArg (after 14 t) ey).trans ((lanes_at _ (R2 m c) (at14 m c) t ((flush0_14 t).mp hf) _ hl _ _).trans (congrArg (R2 m c) ?_))
  have hy : (y 0).val < 1 := (y 0).isLt
  unfold bat
  blk_ext [ix_14]

theorem final16 : ((rd m c).withAfter after).arrAt 16 cfg0.N = R4 m c := by
  refine Dat.arrAt_eq_of_covers _ 16 _ (by decide +kernel) fun t hf y => ?_
  have hl : Lanes (fun t => SCv (hmAt m c t)) t (after 16 t) := (dats m 0 c).toRRel_leaves (w := 16) rfl (hL 16 t hf)
  refine (show _ = after 16 t y from rfl).trans ?_
  have ey : y = ix3 (0 : Fin 1) (y 1 : Fin 8) (y 2 : Fin 128) := by
    funext a
    match a with
    | ⟨0, _⟩ => exact Fin.ext (Nat.lt_one_iff.mp (y 0).isLt)
    | ⟨1, _⟩ => rfl
    | ⟨2, _⟩ => rfl
  refine (congrArg (after 16 t) ey).trans ((lanes_at _ (R4 m c) (at16 m c) t ((flush0_16 t).mp hf) _ hl _ _).trans (congrArg (R4 m c) ?_))
  have hy : (y 0).val < 1 := (y 0).isLt
  unfold bat
  blk_ext [ix_16]

omit hL

/-- What the idealized kernel ends with: the reference's results of its arguments, and the arguments as they were. -/
theorem ends (ρ : Dev nD → PrngReg) : θ_run defs (onTc (τ := τ) (main (F := Ideal))) ⟨m, fun _ => 0, ρ⟩ (fun r => ∀ c : Dev nD,
      r.2.mem ((c.tc : Thread nD τ).loc main_v7_0) = R1 m c
      ∧ r.2.mem ((c.tc : Thread nD τ).loc main_v7_1) = R2 m c
      ∧ r.2.mem ((c.tc : Thread nD τ).loc main_v7_2) = R3 m c
      ∧ r.2.mem ((c.tc : Thread nD τ).loc main_v7_3) = R4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => by
    obtain ⟨after, hL, hA⟩ := Pipeline.RDat.FramePost.exists_exact h c
    exact ⟨(hA 13).trans (final13 m c after hL), (hA 14).trans (final14 m c after hL), (hA 15).trans (final15 m c after hL),
      (hA 16).trans (final16 m c after hL), kept_of m h c⟩) (run_main m ρ)

end Cert.KernelIdeal.Gen
end
-- ==== Proof.KernelFrame.Scratch.lean ====
/- What the body of the kernel is run over: its staging buffers, its scratch buffers, its input blocks. -/
module

public import proofs.«01_k».proof.Proof.Gen.Kernel.Frame
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Each window's current staging memref at point `t`, spelled as the pipeline passes it (`bodyAt0`), and its wholeness. -/
abbrev ms0_0 (t : Fin cfg0.N) : Memref sig .tc .vmem S1x512x8x128 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x8x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x16x8x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x16 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4096x7168 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x7168 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x7168 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S7168x128 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x32x8x128 .fp8e4m3 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x8x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x32x8x7168 .fp8e4m3 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x8x128 .f32 := win0_16.stage (cfg0.slots t 16)
abbrev hs0_16 (t : Fin cfg0.N) : (ms0_16 t).IsWhole := hstage0_16 ((cfg0.slots t 16).cast nbuf0_16)
/-- The scratch operands: whole scoped buffers of the kernel's own, passed beside the windows. -/
abbrev scM0_0 : Memref sig .tc .vmem S256x4096 .bf16 := Memref.whole cc0_scratch0
abbrev scM0_1 : Memref sig .tc .vmem S256x7168 .f32 := Memref.whole cc0_scratch1
abbrev scM0_2 : Memref sig .tc .vmem S256x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.KernelFrame.Body.lean ====
/- The body of the kernel, run once at any point of its grid. -/
module

public import proofs.«01_k».proof.Proof.KernelFrame.Scratch

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 13172000 in
/-- The body's triple: on whole staging memrefs — the inputs' at their contents,
    the FORGOTTEN outputs' (13, 14, 15, 16) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S1x512x8x128 .fp8e4m3) (harg2 : arg2.IsWhole) (arg3 : Memref sig .tc .vmem S1x8x512 .f32) (harg3 : arg3.IsWhole) (arg4 : Memref sig .tc .vmem S1x16x8x128 .fp8e4m3) (harg4 : arg4.IsWhole) (arg5 : Memref sig .tc .vmem S1x8x128 .f32) (harg5 : arg5.IsWhole) (arg6 : Memref sig .tc .vmem S1x16x8x128 .fp8e4m3) (harg6 : arg6.IsWhole) (arg7 : Memref sig .tc .vmem S1x8x16 .f32) (harg7 : arg7.IsWhole) (arg8 : Memref sig .tc .vmem S32x128 .f32) (harg8 : arg8.IsWhole) (arg9 : Memref sig .tc .vmem S4096x7168 .fp8e4m3) (harg9 : arg9.IsWhole) (arg10 : Memref sig .tc .vmem S1x7168 .f32) (harg10 : arg10.IsWhole) (arg11 : Memref sig .tc .vmem S1x7168 .f32) (harg11 : arg11.IsWhole) (arg12 : Memref sig .tc .vmem S7168x128 .fp8e4m3) (harg12 : arg12.IsWhole) (arg13 : Memref sig .tc .vmem S1x128 .f32) (harg13 : arg13.IsWhole) (arg14 : Memref sig .tc .vmem S1x128 .f32) (harg14 : arg14.IsWhole) (arg15 : Memref sig .tc .vmem S1x32x8x128 .fp8e4m3) (harg15 : arg15.IsWhole) (arg16 : Memref sig .tc .vmem S1x8x128 .f32) (harg16 : arg16.IsWhole) (arg17 : Memref sig .tc .vmem S1x32x8x7168 .fp8e4m3) (harg17 : arg17.IsWhole) (arg18 : Memref sig .tc .vmem S1x8x128 .f32) (harg18 : arg18.IsWhole) (arg19 : Memref sig .tc .vmem S256x4096 .bf16) (harg19 : arg19.IsWhole) (arg20 : Memref sig .tc .vmem S256x7168 .f32) (harg20 : arg20.IsWhole) (arg21 : Memref sig .tc .vmem S256x128 .f32) (harg21 : arg21.IsWhole)
    (x0 : Vec F S1x512x8x128 .fp8e4m3) (x1 : Vec F S1x8x512 .f32) (x2 : Vec F S1x16x8x128 .fp8e4m3) (x3 : Vec F S1x8x128 .f32) (x4 : Vec F S1x16x8x128 .fp8e4m3) (x5 : Vec F S1x8x16 .f32) (x6 : Vec F S32x128 .f32) (x7 : Vec F S4096x7168 .fp8e4m3) (x8 : Vec F S1x7168 .f32) (x9 : Vec F S1x7168 .f32) (x10 : Vec F S7168x128 .fp8e4m3) (x11 : Vec F S1x128 .f32) (x12 : Vec F S1x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
          ⊢ wp frame (wpE (defs₀ (F := F)) Variants.none c none) E (cc0_nsa_ck i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
    intro E K
    simp only [cc0_nsa_ck_eq_skeleton]; unfold cc0_nsa_ck_skel
    simp only [k0_part252_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part253_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part254_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part255_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Gen

end
-- ==== Proof.KernelFrame.Frame.lean ====
/- The frame of the kernel: its run over the whole grid ends, with its arguments as they were. Its outputs are not named. -/
module

public import proofs.«01_k».proof.Proof.KernelFrame.Body
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (13, 14, 15, 16): nothing reads what the kernel leaves in them, so nothing
    of it is named (Lib/Pipeline/Dat.lean `Dat.toRForget`). -/
def forgets0 : Fin 17 → Bool := fun w => w.val == 13 || w.val == 14 || w.val == 15 || w.val == 16

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨_ + 17, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((kernelRun0_A c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [HS0]; · iexact HS0
  isplitl [HS1]; · iexact HS1
  isplitl [HS2]; · iexact HS2
  iintro ⟨H0, H1, H2, H3, H4, H5, H6, H7, H8, H9, H10, H11, H12, H13, H14, H15, H16, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 13, 14, 15, 16) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- A run that ends with every input array of the pipeline unchanged ends with the arguments unchanged. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(Pipeline.RDat.FramePost.arr_in h c 2 rfl).trans ((hA c 2).trans (V_main_arg0 m c)),
      ((h c).2 main_arg1 (Pipeline.mem_restRefs_of main_arg1 (by decide) (by decide))).trans (V_main_arg1 m c),
      (Pipeline.RDat.FramePost.arr_in h c 4 rfl).trans ((hA c 4).trans (V_main_arg2 m c)),
      ((h c).2 main_arg3 (Pipeline.mem_restRefs_of main_arg3 (by decide) (by decide))).trans (V_main_arg3 m c),
      (Pipeline.RDat.FramePost.arr_in h c 6 rfl).trans ((hA c 6).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      (Pipeline.RDat.FramePost.arr_in h c 10 rfl).trans ((hA c 10).trans (V_main_arg8 m c)),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of_rel m ρ (fun c => (dats m 0 c).toRForget forgets0) (A_eq m) (run_main m ρ)

/-- The frame at any float instance: the arguments unchanged, every semaphore counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Hand.Arr
public import proofs.«01_k».proof.Proof.KernelFrame.Frame
public import Idealize.ShloMosaic.Adequacy
public import Idealize.ShloMosaic.Init

@[expose] public section

noncomputable section

namespace Cert.Proof

open Idealize.ShloMosaic Idealize.SL.Sem Cert.Kernel

/-- The reference's results of equal arguments are equal: the one step between the two runs. -/
theorem algebraic : algebraic_KernelIdeal_ReferenceIdeal (hKernelIdeal := Cert.KernelIdeal.Gen.facts) (hReferenceIdeal := Cert.ReferenceIdeal.Gen.facts) := by
  intro m g m' g' _ heq
  refine ⟨fun c => Cert.KernelIdeal.Gen.R1 m c, fun c => Cert.KernelIdeal.Gen.R2 m c, fun c => Cert.KernelIdeal.Gen.R3 m c,
    fun c => Cert.KernelIdeal.Gen.R4 m c, Cert.KernelIdeal.Gen.ends m g, ?_⟩
  refine (θ_run _ _ _).mono (fun r h c => ?_) (Cert.ReferenceIdeal.Value.run m' g')
  obtain ⟨e0, e1, e2, e3, e4, e5, e6, e7, e8, e9, e10⟩ := heq c
  obtain ⟨h0, h1, h2, h3, hk⟩ := h c
  refine ⟨h0.trans ?_, h1.trans ?_, h2.trans ?_, h3.trans ?_, hk⟩ <;>
    rw [e0, e1, e2, e3, e4, e5, e6, e7, e8, e9, e10]

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
